-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S1x128 : Shape := ⟨2, ![1, 128]⟩
abbrev S2x1000x128 : Shape := ⟨3, ![2, 1000, 128]⟩
abbrev S2 : Shape := ⟨1, ![2]⟩
abbrev S1 : Shape := ⟨1, ![1]⟩
abbrev S_ : Shape := ⟨0, ![]⟩
abbrev S1x1000x128 : Shape := ⟨3, ![1, 1000, 128]⟩
abbrev S1000x128 : Shape := ⟨2, ![1000, 128]⟩

abbrev nBuf : Space → Nat
  | .hbm => 9
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .local _ .vmem, ⟨0, _⟩ => ⟨S128x128, .f32⟩
  | .local _ .vmem, ⟨1, _⟩ => ⟨S1x128, .f32⟩
  | .local _ .vmem, ⟨2, _⟩ => ⟨S128x128, .f32⟩
  | .local _ .vmem, ⟨3, _⟩ => ⟨S1x128, .f32⟩
  | .local _ .vmem, ⟨4, _⟩ => ⟨S2x1000x128, .f32⟩
  | .local _ .vmem, ⟨5, _⟩ => ⟨S2x1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scoped0 : Ref sig .tc := ⟨.vmem, 4, rfl⟩
abbrev cc0_scoped2 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

def k0_off1 : Fin 1 → Nat :=
  let c0_i32_12_r0 : BitVec 32 := 0#32
  let c2_i32_r0 : BitVec 32 := 2#32
  let v15_r0 : BitVec 32 := Scalar.remui c0_i32_12_r0 c2_i32_r0
  ![v15_r0.toNat]
def k0_off2 : Fin 3 → Nat :=
  let c0_i32_12_r0 : BitVec 32 := 0#32
  let c2_i32_r0 : BitVec 32 := 2#32
  let v15_r0 : BitVec 32 := Scalar.remui c0_i32_12_r0 c2_i32_r0
  let c0_i32_13_r0 : BitVec 32 := 0#32
  let c0_i32_14_r0 : BitVec 32 := 0#32
  ![v15_r0.toNat, 0, 0]
@[reducible] def k0_t1_loop : Scf.Loop 32 :=
  let c0_i32_23_r0 : BitVec 32 := 0#32
  let c10_i32_24_r0 : BitVec 32 := 10#32
  let v22_r0 : BitVec 32 := Scalar.addi c0_i32_23_r0 c10_i32_24_r0
  let c1_i32_25_r0 : BitVec 32 := 1#32
  ⟨c0_i32_23_r0, v22_r0, c1_i32_25_r0⟩
def k0_off3 (arg7_r0 : BitVec 32) : Fin 1 → Nat :=
  let c2_i32_117_r0 : BitVec 32 := 2#32
  let v159_r0 : BitVec 32 := Scalar.remui arg7_r0 c2_i32_117_r0
  ![v159_r0.toNat]
def k0_cond1 (k0_t1 : Fin k0_t1_loop.trips) (arg11_r0 : BitVec 32) : BitVec 1 :=
  let c0_i32_53_r0 : BitVec 32 := 0#32
  let v53_r0 : BitVec 32 := Scalar.addi arg11_r0 c0_i32_53_r0
  let true_60_r0 : BitVec 1 := 1#1
  let c1_i32_59_r0 : BitVec 32 := 1#32
  let v59_r0 : BitVec 32 := Scalar.addi arg11_r0 c1_i32_59_r0
  let v60_r0 : BitVec 32 := Scalar.select true_60_r0 v59_r0 arg11_r0
  let c10_i32_61_r0 : BitVec 32 := 10#32
  let v61_r0 : BitVec 1 := Scalar.cmpi .eq v60_r0 c10_i32_61_r0
  let c0_i32_62_r0 : BitVec 32 := 0#32
  let v62_r0 : BitVec 32 := Scalar.select v61_r0 c0_i32_62_r0 v60_r0
  let c0_i32_63_r0 : BitVec 32 := 0#32
  let v63_r0 : BitVec 32 := Scalar.addi v62_r0 c0_i32_63_r0
  let v69_r0 : BitVec 1 := Scalar.cmpi .ne v53_r0 v63_r0
  let c0_i32_23_r0 : BitVec 32 := 0#32
  let c1_i32_25_r0 : BitVec 32 := 1#32
  let arg6_r0 : BitVec 32 := Scf.iv c0_i32_23_r0 c1_i32_25_r0 k0_t1
  let c9_i32_69_r0 : BitVec 32 := 9#32
  let v70_r0 : BitVec 1 := Scalar.cmpi .sge arg6_r0 c9_i32_69_r0
  let true_70_r0 : BitVec 1 := 1#1
  let v71_r0 : BitVec 1 := Scalar.xori v70_r0 true_70_r0
  let v72_r0 : BitVec 1 := Scalar.andi v69_r0 v71_r0
  let true_71_r0 : BitVec 1 := 1#1
  let v73_r0 : BitVec 1 := Scalar.andi v72_r0 true_71_r0
  let v74_r0 : BitVec 32 := Scalar.extui v73_r0
  let c0_i32_72_r0 : BitVec 32 := 0#32
  let v75_r0 : BitVec 1 := Scalar.cmpi .ne v74_r0 c0_i32_72_r0
  v75_r0

def k0_off4 (arg7_r0 : BitVec 32) : Fin 3 → Nat :=
  let c2_i32_117_r0 : BitVec 32 := 2#32
  let v159_r0 : BitVec 32 := Scalar.remui arg7_r0 c2_i32_117_r0
  let c0_i32_119_r0 : BitVec 32 := 0#32
  let c0_i32_120_r0 : BitVec 32 := 0#32
  ![v159_r0.toNat, 0, 0]
def k0_off5 (arg11_r0 : BitVec 32) : Fin 2 → Nat :=
  let c1000_i32_118_r0 : BitVec 32 := 1000#32
  let true_60_r0 : BitVec 1 := 1#1
  let c1_i32_59_r0 : BitVec 32 := 1#32
  let v59_r0 : BitVec 32 := Scalar.addi arg11_r0 c1_i32_59_r0
  let v60_r0 : BitVec 32 := Scalar.select true_60_r0 v59_r0 arg11_r0
  let c10_i32_61_r0 : BitVec 32 := 10#32
  let v61_r0 : BitVec 1 := Scalar.cmpi .eq v60_r0 c10_i32_61_r0
  let c0_i32_62_r0 : BitVec 32 := 0#32
  let v62_r0 : BitVec 32 := Scalar.select v61_r0 c0_i32_62_r0 v60_r0
  let c0_i32_63_r0 : BitVec 32 := 0#32
  let v63_r0 : BitVec 32 := Scalar.addi v62_r0 c0_i32_63_r0
  let v160_r0 : BitVec 32 := Scalar.muli c1000_i32_118_r0 v63_r0
  let c0_i32_121_r0 : BitVec 32 := 0#32
  ![v160_r0.toNat, 0]
def k0_off6 (arg8_r0 : BitVec 32) : Fin 1 → Nat :=
  let c2_i32_118_r0 : BitVec 32 := 2#32
  let v160_r0 : BitVec 32 := Scalar.remui arg8_r0 c2_i32_118_r0
  ![v160_r0.toNat]
def k0_cond2 (k0_t1 : Fin k0_t1_loop.trips) (arg11_r0 : BitVec 32) : BitVec 1 :=
  let c0_i32_53_r0 : BitVec 32 := 0#32
  let v53_r0 : BitVec 32 := Scalar.addi arg11_r0 c0_i32_53_r0
  let true_55_r0 : BitVec 1 := 1#1
  let c1_i32_54_r0 : BitVec 32 := 1#32
  let v54_r0 : BitVec 32 := Scalar.subi arg11_r0 c1_i32_54_r0
  let v55_r0 : BitVec 32 := Scalar.select true_55_r0 v54_r0 arg11_r0
  let c_m1_i32_56_r0 : BitVec 32 := 4294967295#32
  let v56_r0 : BitVec 1 := Scalar.cmpi .eq v55_r0 c_m1_i32_56_r0
  let c9_i32_57_r0 : BitVec 32 := 9#32
  let v57_r0 : BitVec 32 := Scalar.select v56_r0 c9_i32_57_r0 v55_r0
  let c0_i32_58_r0 : BitVec 32 := 0#32
  let v58_r0 : BitVec 32 := Scalar.addi v57_r0 c0_i32_58_r0
  let v83_r0 : BitVec 1 := Scalar.cmpi .ne v53_r0 v58_r0
  let c0_i32_23_r0 : BitVec 32 := 0#32
  let c1_i32_25_r0 : BitVec 32 := 1#32
  let arg6_r0 : BitVec 32 := Scf.iv c0_i32_23_r0 c1_i32_25_r0 k0_t1
  let c0_i32_51_r0 : BitVec 32 := 0#32
  let v51_r0 : BitVec 1 := Scalar.cmpi .eq arg6_r0 c0_i32_51_r0
  let v84_r0 : BitVec 1 := Scalar.ori v83_r0 v51_r0
  let c0_i32_77_r0 : BitVec 32 := 0#32
  let v85_r0 : BitVec 1 := Scalar.cmpi .sge arg6_r0 c0_i32_77_r0
  let v86_r0 : BitVec 1 := Scalar.andi v84_r0 v85_r0
  let v87_r0 : BitVec 32 := Scalar.extui v86_r0
  let c0_i32_78_r0 : BitVec 32 := 0#32
  let v88_r0 : BitVec 1 := Scalar.cmpi .ne v87_r0 c0_i32_78_r0
  v88_r0

def k0_off7 (arg8_r0 : BitVec 32) : Fin 3 → Nat :=
  let c2_i32_118_r0 : BitVec 32 := 2#32
  let v160_r0 : BitVec 32 := Scalar.remui arg8_r0 c2_i32_118_r0
  let c0_i32_119_r0 : BitVec 32 := 0#32
  let c0_i32_120_r0 : BitVec 32 := 0#32
  ![v160_r0.toNat, 0, 0]
def k0_off8 (arg11_r0 : BitVec 32) : Fin 2 → Nat :=
  let c1000_i32_117_r0 : BitVec 32 := 1000#32
  let c0_i32_53_r0 : BitVec 32 := 0#32
  let v53_r0 : BitVec 32 := Scalar.addi arg11_r0 c0_i32_53_r0
  let v159_r0 : BitVec 32 := Scalar.muli c1000_i32_117_r0 v53_r0
  let c0_i32_121_r0 : BitVec 32 := 0#32
  ![v159_r0.toNat, 0]
def k0_off9 (arg8_r0 : BitVec 32) : Fin 3 → Nat :=
  let c2_i32_81_r0 : BitVec 32 := 2#32
  let v95_r0 : BitVec 32 := Scalar.remui arg8_r0 c2_i32_81_r0
  let c0_i32_83_r0 : BitVec 32 := 0#32
  let c0_i32_84_r0 : BitVec 32 := 0#32
  ![v95_r0.toNat, 0, 0]

def k0_chk2 (arg8_r0 : BitVec 32) : Prop :=
  (∀ a, (k0_off9 arg8_r0) a + S1x1000x128.size a ≤ S2x1000x128.size a)
theorem k0_off9_inb : ∀ (arg8_r0 : BitVec 32) (k0_hw2 : k0_chk2 arg8_r0), ∀ a, (k0_off9 arg8_r0) a + S1x1000x128.size a ≤ S2x1000x128.size a := fun arg8_r0 k0_hw2 => k0_hw2

def k0_off10 (arg9_r0 : BitVec 32) : Fin 3 → Nat :=
  let c2_i32_82_r0 : BitVec 32 := 2#32
  let v96_r0 : BitVec 32 := Scalar.remui arg9_r0 c2_i32_82_r0
  let c0_i32_97_r0 : BitVec 32 := 0#32
  let c0_i32_98_r0 : BitVec 32 := 0#32
  ![v96_r0.toNat, 0, 0]

def k0_chk3 (arg9_r0 : BitVec 32) : Prop :=
  (∀ a, (k0_off10 arg9_r0) a + S1x1000x128.size a ≤ S2x1000x128.size a)
theorem k0_off10_inb : ∀ (arg9_r0 : BitVec 32) (k0_hw3 : k0_chk3 arg9_r0), ∀ a, (k0_off10 arg9_r0) a + S1x1000x128.size a ≤ S2x1000x128.size a := fun arg9_r0 k0_hw3 => k0_hw3

def k0_off11 (arg9_r0 : BitVec 32) : Fin 1 → Nat :=
  let c2_i32_117_r0 : BitVec 32 := 2#32
  let v159_r0 : BitVec 32 := Scalar.remui arg9_r0 c2_i32_117_r0
  ![v159_r0.toNat]
def k0_cond5 (k0_t1 : Fin k0_t1_loop.trips) (arg11_r0 : BitVec 32) : BitVec 1 :=
  let c0_i32_53_r0 : BitVec 32 := 0#32
  let v53_r0 : BitVec 32 := Scalar.addi arg11_r0 c0_i32_53_r0
  let true_60_r0 : BitVec 1 := 1#1
  let c1_i32_59_r0 : BitVec 32 := 1#32
  let v59_r0 : BitVec 32 := Scalar.addi arg11_r0 c1_i32_59_r0
  let v60_r0 : BitVec 32 := Scalar.select true_60_r0 v59_r0 arg11_r0
  let c10_i32_61_r0 : BitVec 32 := 10#32
  let v61_r0 : BitVec 1 := Scalar.cmpi .eq v60_r0 c10_i32_61_r0
  let c0_i32_62_r0 : BitVec 32 := 0#32
  let v62_r0 : BitVec 32 := Scalar.select v61_r0 c0_i32_62_r0 v60_r0
  let c0_i32_63_r0 : BitVec 32 := 0#32
  let v63_r0 : BitVec 32 := Scalar.addi v62_r0 c0_i32_63_r0
  let v130_r0 : BitVec 1 := Scalar.cmpi .ne v53_r0 v63_r0
  let c0_i32_23_r0 : BitVec 32 := 0#32
  let c1_i32_25_r0 : BitVec 32 := 1#32
  let arg6_r0 : BitVec 32 := Scf.iv c0_i32_23_r0 c1_i32_25_r0 k0_t1
  let c9_i32_52_r0 : BitVec 32 := 9#32
  let v52_r0 : BitVec 1 := Scalar.cmpi .eq arg6_r0 c9_i32_52_r0
  let v131_r0 : BitVec 1 := Scalar.ori v130_r0 v52_r0
  let v132_r0 : BitVec 32 := Scalar.extui v131_r0
  let c0_i32_102_r0 : BitVec 32 := 0#32
  let v133_r0 : BitVec 1 := Scalar.cmpi .ne v132_r0 c0_i32_102_r0
  v133_r0

def k0_off12 (arg11_r0 : BitVec 32) : Fin 2 → Nat :=
  let c1000_i32_118_r0 : BitVec 32 := 1000#32
  let c0_i32_53_r0 : BitVec 32 := 0#32
  let v53_r0 : BitVec 32 := Scalar.addi arg11_r0 c0_i32_53_r0
  let v160_r0 : BitVec 32 := Scalar.muli c1000_i32_118_r0 v53_r0
  let c0_i32_119_r0 : BitVec 32 := 0#32
  ![v160_r0.toNat, 0]
def k0_off13 (arg9_r0 : BitVec 32) : Fin 3 → Nat :=
  let c2_i32_117_r0 : BitVec 32 := 2#32
  let v159_r0 : BitVec 32 := Scalar.remui arg9_r0 c2_i32_117_r0
  let c0_i32_120_r0 : BitVec 32 := 0#32
  let c0_i32_121_r0 : BitVec 32 := 0#32
  ![v159_r0.toNat, 0, 0]
def k0_off14 (arg10_r0 : BitVec 32) : Fin 1 → Nat :=
  let c2_i32_117_r0 : BitVec 32 := 2#32
  let v159_r0 : BitVec 32 := Scalar.remui arg10_r0 c2_i32_117_r0
  ![v159_r0.toNat]
def k0_cond7 (k0_t1 : Fin k0_t1_loop.trips) (arg11_r0 : BitVec 32) : BitVec 1 :=
  let c0_i32_53_r0 : BitVec 32 := 0#32
  let v53_r0 : BitVec 32 := Scalar.addi arg11_r0 c0_i32_53_r0
  let true_55_r0 : BitVec 1 := 1#1
  let c1_i32_54_r0 : BitVec 32 := 1#32
  let v54_r0 : BitVec 32 := Scalar.subi arg11_r0 c1_i32_54_r0
  let v55_r0 : BitVec 32 := Scalar.select true_55_r0 v54_r0 arg11_r0
  let c_m1_i32_56_r0 : BitVec 32 := 4294967295#32
  let v56_r0 : BitVec 1 := Scalar.cmpi .eq v55_r0 c_m1_i32_56_r0
  let c9_i32_57_r0 : BitVec 32 := 9#32
  let v57_r0 : BitVec 32 := Scalar.select v56_r0 c9_i32_57_r0 v55_r0
  let c0_i32_58_r0 : BitVec 32 := 0#32
  let v58_r0 : BitVec 32 := Scalar.addi v57_r0 c0_i32_58_r0
  let v143_r0 : BitVec 1 := Scalar.cmpi .ne v53_r0 v58_r0
  let c0_i32_23_r0 : BitVec 32 := 0#32
  let c1_i32_25_r0 : BitVec 32 := 1#32
  let arg6_r0 : BitVec 32 := Scf.iv c0_i32_23_r0 c1_i32_25_r0 k0_t1
  let c0_i32_51_r0 : BitVec 32 := 0#32
  let v51_r0 : BitVec 1 := Scalar.cmpi .eq arg6_r0 c0_i32_51_r0
  let true_108_r0 : BitVec 1 := 1#1
  let v144_r0 : BitVec 1 := Scalar.xori v51_r0 true_108_r0
  let v145_r0 : BitVec 1 := Scalar.andi v143_r0 v144_r0
  let v146_r0 : BitVec 32 := Scalar.extui v145_r0
  let c0_i32_109_r0 : BitVec 32 := 0#32
  let v147_r0 : BitVec 1 := Scalar.cmpi .ne v146_r0 c0_i32_109_r0
  v147_r0

def k0_off15 (arg11_r0 : BitVec 32) : Fin 2 → Nat :=
  let c1000_i32_118_r0 : BitVec 32 := 1000#32
  let true_55_r0 : BitVec 1 := 1#1
  let c1_i32_54_r0 : BitVec 32 := 1#32
  let v54_r0 : BitVec 32 := Scalar.subi arg11_r0 c1_i32_54_r0
  let v55_r0 : BitVec 32 := Scalar.select true_55_r0 v54_r0 arg11_r0
  let c_m1_i32_56_r0 : BitVec 32 := 4294967295#32
  let v56_r0 : BitVec 1 := Scalar.cmpi .eq v55_r0 c_m1_i32_56_r0
  let c9_i32_57_r0 : BitVec 32 := 9#32
  let v57_r0 : BitVec 32 := Scalar.select v56_r0 c9_i32_57_r0 v55_r0
  let c0_i32_58_r0 : BitVec 32 := 0#32
  let v58_r0 : BitVec 32 := Scalar.addi v57_r0 c0_i32_58_r0
  let v160_r0 : BitVec 32 := Scalar.muli c1000_i32_118_r0 v58_r0
  let c0_i32_119_r0 : BitVec 32 := 0#32
  ![v160_r0.toNat, 0]
def k0_off16 (arg10_r0 : BitVec 32) : Fin 3 → Nat :=
  let c2_i32_117_r0 : BitVec 32 := 2#32
  let v159_r0 : BitVec 32 := Scalar.remui arg10_r0 c2_i32_117_r0
  let c0_i32_120_r0 : BitVec 32 := 0#32
  let c0_i32_121_r0 : BitVec 32 := 0#32
  ![v159_r0.toNat, 0, 0]

def k0_chk1 (k0_t1 : Fin k0_t1_loop.trips) (arg7_r0 : BitVec 32) (arg8_r0 : BitVec 32) (arg9_r0 : BitVec 32) (arg10_r0 : BitVec 32) (arg11_r0 : BitVec 32) : Prop :=
  (∀ (k0_h1 : k0_cond1 k0_t1 arg11_r0 = 1#1), ∀ a, (k0_off3 arg7_r0) a + S1.size a ≤ S2.size a) ∧
  (∀ (k0_h1 : k0_cond1 k0_t1 arg11_r0 = 1#1), ∀ a, (k0_off4 arg7_r0) a + S1x1000x128.size a ≤ S2x1000x128.size a) ∧
  (∀ (k0_h1 : k0_cond1 k0_t1 arg11_r0 = 1#1), ∀ a, (k0_off5 arg11_r0) a + S1000x128.size a ≤ S10000x128.size a) ∧
  (∀ (k0_h2 : k0_cond2 k0_t1 arg11_r0 = 1#1), ∀ a, (k0_off6 arg8_r0) a + S1.size a ≤ S2.size a) ∧
  (∀ (k0_h2 : k0_cond2 k0_t1 arg11_r0 = 1#1), ∀ a, (k0_off7 arg8_r0) a + S1x1000x128.size a ≤ S2x1000x128.size a) ∧
  (∀ (k0_h2 : k0_cond2 k0_t1 arg11_r0 = 1#1), ∀ a, (k0_off8 arg11_r0) a + S1000x128.size a ≤ S10000x128.size a) ∧
  (∀ (k0_h5 : k0_cond5 k0_t1 arg11_r0 = 1#1), ∀ a, (k0_off11 arg9_r0) a + S1.size a ≤ S2.size a) ∧
  (∀ (k0_h5 : k0_cond5 k0_t1 arg11_r0 = 1#1), ∀ a, (k0_off12 arg11_r0) a + S1000x128.size a ≤ S10000x128.size a) ∧
  (∀ (k0_h5 : k0_cond5 k0_t1 arg11_r0 = 1#1), ∀ a, (k0_off13 arg9_r0) a + S1x1000x128.size a ≤ S2x1000x128.size a) ∧
  (∀ (k0_h7 : k0_cond7 k0_t1 arg11_r0 = 1#1), ∀ a, (k0_off14 arg10_r0) a + S1.size a ≤ S2.size a) ∧
  (∀ (k0_h7 : k0_cond7 k0_t1 arg11_r0 = 1#1), ∀ a, (k0_off15 arg11_r0) a + S1000x128.size a ≤ S10000x128.size a) ∧
  (∀ (k0_h7 : k0_cond7 k0_t1 arg11_r0 = 1#1), ∀ a, (k0_off16 arg10_r0) a + S1x1000x128.size a ≤ S2x1000x128.size a)
theorem k0_off3_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h1 : k0_cond1 k0_t1 arg11_r0 = 1#1), ∀ a, (k0_off3 arg7_r0) a + S1.size a ≤ S2.size a := fun k0_t1 arg7_r0 arg8_r0 arg9_r0 arg10_r0 arg11_r0 k0_hw1 k0_h1 => k0_hw1.1 k0_h1
theorem k0_off4_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h1 : k0_cond1 k0_t1 arg11_r0 = 1#1), ∀ a, (k0_off4 arg7_r0) a + S1x1000x128.size a ≤ S2x1000x128.size a := fun k0_t1 arg7_r0 arg8_r0 arg9_r0 arg10_r0 arg11_r0 k0_hw1 k0_h1 => k0_hw1.2.1 k0_h1
theorem k0_off5_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h1 : k0_cond1 k0_t1 arg11_r0 = 1#1), ∀ a, (k0_off5 arg11_r0) a + S1000x128.size a ≤ S10000x128.size a := fun k0_t1 arg7_r0 arg8_r0 arg9_r0 arg10_r0 arg11_r0 k0_hw1 k0_h1 => k0_hw1.2.2.1 k0_h1
theorem k0_off6_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h2 : k0_cond2 k0_t1 arg11_r0 = 1#1), ∀ a, (k0_off6 arg8_r0) a + S1.size a ≤ S2.size a := fun k0_t1 arg7_r0 arg8_r0 arg9_r0 arg10_r0 arg11_r0 k0_hw1 k0_h2 => k0_hw1.2.2.2.1 k0_h2
theorem k0_off7_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h2 : k0_cond2 k0_t1 arg11_r0 = 1#1), ∀ a, (k0_off7 arg8_r0) a + S1x1000x128.size a ≤ S2x1000x128.size a := fun k0_t1 arg7_r0 arg8_r0 arg9_r0 arg10_r0 arg11_r0 k0_hw1 k0_h2 => k0_hw1.2.2.2.2.1 k0_h2
theorem k0_off8_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h2 : k0_cond2 k0_t1 arg11_r0 = 1#1), ∀ a, (k0_off8 arg11_r0) a + S1000x128.size a ≤ S10000x128.size a := fun k0_t1 arg7_r0 arg8_r0 arg9_r0 arg10_r0 arg11_r0 k0_hw1 k0_h2 => k0_hw1.2.2.2.2.2.1 k0_h2
theorem k0_off11_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h5 : k0_cond5 k0_t1 arg11_r0 = 1#1), ∀ a, (k0_off11 arg9_r0) a + S1.size a ≤ S2.size a := fun k0_t1 arg7_r0 arg8_r0 arg9_r0 arg10_r0 arg11_r0 k0_hw1 k0_h5 => k0_hw1.2.2.2.2.2.2.1 k0_h5
theorem k0_off12_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h5 : k0_cond5 k0_t1 arg11_r0 = 1#1), ∀ a, (k0_off12 arg11_r0) a + S1000x128.size a ≤ S10000x128.size a := fun k0_t1 arg7_r0 arg8_r0 arg9_r0 arg10_r0 arg11_r0 k0_hw1 k0_h5 => k0_hw1.2.2.2.2.2.2.2.1 k0_h5
theorem k0_off13_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h5 : k0_cond5 k0_t1 arg11_r0 = 1#1), ∀ a, (k0_off13 arg9_r0) a + S1x1000x128.size a ≤ S2x1000x128.size a := fun k0_t1 arg7_r0 arg8_r0 arg9_r0 arg10_r0 arg11_r0 k0_hw1 k0_h5 => k0_hw1.2.2.2.2.2.2.2.2.1 k0_h5
theorem k0_off14_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h7 : k0_cond7 k0_t1 arg11_r0 = 1#1), ∀ a, (k0_off14 arg10_r0) a + S1.size a ≤ S2.size a := fun k0_t1 arg7_r0 arg8_r0 arg9_r0 arg10_r0 arg11_r0 k0_hw1 k0_h7 => k0_hw1.2.2.2.2.2.2.2.2.2.1 k0_h7
theorem k0_off15_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h7 : k0_cond7 k0_t1 arg11_r0 = 1#1), ∀ a, (k0_off15 arg11_r0) a + S1000x128.size a ≤ S10000x128.size a := fun k0_t1 arg7_r0 arg8_r0 arg9_r0 arg10_r0 arg11_r0 k0_hw1 k0_h7 => k0_hw1.2.2.2.2.2.2.2.2.2.2.1 k0_h7
theorem k0_off16_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h7 : k0_cond7 k0_t1 arg11_r0 = 1#1), ∀ a, (k0_off16 arg10_r0) a + S1x1000x128.size a ≤ S2x1000x128.size a := fun k0_t1 arg7_r0 arg8_r0 arg9_r0 arg10_r0 arg11_r0 k0_hw1 k0_h7 => k0_hw1.2.2.2.2.2.2.2.2.2.2.2 k0_h7

def k0_off17 (v23_3_r0 : BitVec 32) : Fin 1 → Nat :=
  let c2_i32_47_r0 : BitVec 32 := 2#32
  let v44_r0 : BitVec 32 := Scalar.remui v23_3_r0 c2_i32_47_r0
  ![v44_r0.toNat]

def k0_off18 (v23_4_r0 : BitVec 32) : Fin 2 → Nat :=
  let c1000_i32_r0 : BitVec 32 := 1000#32
  let true_28_r0 : BitVec 1 := 1#1
  let c1_i32_27_r0 : BitVec 32 := 1#32
  let v24_r0 : BitVec 32 := Scalar.subi v23_4_r0 c1_i32_27_r0
  let v25_r0 : BitVec 32 := Scalar.select true_28_r0 v24_r0 v23_4_r0
  let c_m1_i32_29_r0 : BitVec 32 := 4294967295#32
  let v26_r0 : BitVec 1 := Scalar.cmpi .eq v25_r0 c_m1_i32_29_r0
  let c9_i32_30_r0 : BitVec 32 := 9#32
  let v27_r0 : BitVec 32 := Scalar.select v26_r0 c9_i32_30_r0 v25_r0
  let c0_i32_31_r0 : BitVec 32 := 0#32
  let v28_r0 : BitVec 32 := Scalar.addi v27_r0 c0_i32_31_r0
  let v45_r0 : BitVec 32 := Scalar.muli c1000_i32_r0 v28_r0
  let c0_i32_48_r0 : BitVec 32 := 0#32
  ![v45_r0.toNat, 0]

def k0_chk5 (v23_4_r0 : BitVec 32) : Prop :=
  (∀ a, (k0_off18 v23_4_r0) a + S1000x128.size a ≤ S10000x128.size a)
theorem k0_off18_inb : ∀ (v23_4_r0 : BitVec 32) (k0_hw5 : k0_chk5 v23_4_r0), ∀ a, (k0_off18 v23_4_r0) a + S1000x128.size a ≤ S10000x128.size a := fun v23_4_r0 k0_hw5 => k0_hw5

def k0_off19 (v23_3_r0 : BitVec 32) : Fin 3 → Nat :=
  let c2_i32_47_r0 : BitVec 32 := 2#32
  let v44_r0 : BitVec 32 := Scalar.remui v23_3_r0 c2_i32_47_r0
  let c0_i32_49_r0 : BitVec 32 := 0#32
  let c0_i32_50_r0 : BitVec 32 := 0#32
  ![v44_r0.toNat, 0, 0]

def k0_chk4 (v23_3_r0 : BitVec 32) : Prop :=
  (∀ a, (k0_off17 v23_3_r0) a + S1.size a ≤ S2.size a) ∧
  (∀ a, (k0_off19 v23_3_r0) a + S1x1000x128.size a ≤ S2x1000x128.size a)
theorem k0_off17_inb : ∀ (v23_3_r0 : BitVec 32) (k0_hw4 : k0_chk4 v23_3_r0), ∀ a, (k0_off17 v23_3_r0) a + S1.size a ≤ S2.size a := fun v23_3_r0 k0_hw4 => k0_hw4.1
theorem k0_off19_inb : ∀ (v23_3_r0 : BitVec 32) (k0_hw4 : k0_chk4 v23_3_r0), ∀ a, (k0_off19 v23_3_r0) a + S1x1000x128.size a ≤ S2x1000x128.size a := fun v23_3_r0 k0_hw4 => k0_hw4.2

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S_, .f32⟩
  | .hbm, ⟨11, _⟩ => ⟨S10000x128, .f32⟩
  | .hbm, ⟨12, _⟩ => ⟨S10000x128, .i1⟩
  | .hbm, ⟨13, _⟩ => ⟨S10000x128, .f32⟩
  | .hbm, ⟨14, _⟩ => ⟨S_, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S1x128, .f32⟩
  | .hbm, ⟨20, _⟩ => ⟨S10000x128, .f32⟩
  | .hbm, ⟨21, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Proof.Words.lean ====
/-
  The words of the software pipeline in closed form, and the names under which its proof speaks of memory.

  The kernel cuts the 10000 rows of the input and of the result into ten blocks of 1000 rows and runs one counted
  loop of ten trips. The loop carries five words: how many copies in were started, how many were waited for, how many
  copies out were started, how many were waited for, and the number of the current block. `wordsAt k` is what they are
  before trip `k`; every rectangle, condition and side condition of the trip, read at these words, is evaluated here.

  Names: `xblk b` / `yblk b` are block `b` of the input / the result in HBM, `islot s` / `oslot s` slot `s` of the input /
  output ring in VMEM, `icell s` / `ocell s` their DMA semaphores. The equations tagged `sl_canon` rewrite the program's
  slices to these names.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Ring
public import Idealize.ShloMosaic.Lib.Ring.Trips
public import Idealize.ShloMosaic.Lib.Ring.WriteBehind
public import Idealize.ShloMosaic.Lib.Pipeline.FrameValue
public import Idealize.ShloMosaic.Lib.Tactic

@[expose] public section

set_option maxRecDepth 16384

noncomputable section

namespace Cert.Proof.Mlp

open Cert.KernelIdeal Cert.KernelIdeal.Gen
open Idealize.ShloMosaic
open Idealize.ShloMosaic.TcCoe Idealize.ShloMosaic.Tactic
open Idealize.SL Idealize.SL.Sem

/-! ## The carried words -/

/-- The five carried words before trip `k`. -/
def wordsAt (k : ℕ) : BitVec 32 × BitVec 32 × BitVec 32 × BitVec 32 × BitVec 32 :=
  (BitVec.ofNat 32 (min (k + 1) 10), BitVec.ofNat 32 k, BitVec.ofNat 32 k, BitVec.ofNat 32 (k - 1), BitVec.ofNat 32 (k % 10))

/-- The count of input blocks asked for. -/
abbrev w7 (k : ℕ) : BitVec 32 := BitVec.ofNat 32 (min (k + 1) 10)
/-- The count of blocks read, which is also the count of blocks written. -/
abbrev w8 (k : ℕ) : BitVec 32 := BitVec.ofNat 32 k
/-- The count of blocks whose copy out has been waited for. -/
abbrev w10 (k : ℕ) : BitVec 32 := BitVec.ofNat 32 (k - 1)
/-- The block the trip works on. -/
abbrev w11 (k : ℕ) : BitVec 32 := BitVec.ofNat 32 (k % 10)

/-- The loop runs ten trips. -/
theorem trips_eq : k0_t1_loop.trips = 10 := by decide +kernel

/-! ## Canonical offsets -/

/-- Where row block `b` of an array starts. -/
abbrev blkOff (b : Fin 10) : Fin 2 → Nat := ![1000 * b.val, 0]
/-- A row block lies in the array. -/
theorem blkOff_inb (b : Fin 10) : ∀ a, blkOff b a + S1000x128.size a ≤ S10000x128.size a := by
  have := b.isLt; intro a; fin_cases a
  · show 1000 * b.val + 1000 ≤ 10000; omega
  · show 0 + 128 ≤ 128; omega
/-- Where slot `s` of a ring starts. -/
abbrev slotOff (s : Fin 2) : Fin 3 → Nat := ![s.val, 0, 0]
/-- A slot lies in the ring. -/
theorem slotOff_inb (s : Fin 2) : ∀ a, slotOff s a + S1x1000x128.size a ≤ S2x1000x128.size a := by
  have := s.isLt; intro a; fin_cases a
  · show s.val + 1 ≤ 2; omega
  · show 0 + 1000 ≤ 1000; omega
  · show 0 + 128 ≤ 128; omega
/-- Where slot `s`'s semaphore is. -/
abbrev semOff (s : Fin 2) : Fin 1 → Nat := ![s.val]
/-- It lies in the array of semaphores. -/
theorem semOff_inb (s : Fin 2) : ∀ a, semOff s a + S1.size a ≤ S2.size a := by
  have := s.isLt; intro a; fin_cases a; show s.val + 1 ≤ 2; omega

/-! ## The trip's conditions and rectangles -/

/-- The loop's trips. -/
abbrev T : Type := Fin k0_t1_loop.trips

/-- The next block is asked for in every trip but the last. -/
theorem cond1_eq : ∀ k : T, k0_cond1 k (w11 k.val) = if k.val < 9 then 1#1 else 0#1 := by decide +kernel
/-- Every trip waits for its own block. -/
theorem cond2_eq : ∀ k : T, k0_cond2 k (w11 k.val) = 1#1 := by decide +kernel
/-- Every trip sends its block out. -/
theorem cond5_eq : ∀ k : T, k0_cond5 k (w11 k.val) = 1#1 := by decide +kernel
/-- Every trip but the first waits for the copy out of the block before. -/
theorem cond7_eq : ∀ k : T, k0_cond7 k (w11 k.val) = if 1 ≤ k.val then 1#1 else 0#1 := by decide +kernel

/-- Asking for the next block: the semaphore, -/
theorem off3_eq : ∀ k : T, k.val < 9 → k0_off3 (w7 k.val) = semOff (Ring.sl 2 (k.val + 1)) := by decide +kernel
/-- the slot it goes into, -/
theorem off4_eq : ∀ k : T, k.val < 9 → k0_off4 (w7 k.val) = slotOff (Ring.sl 2 (k.val + 1)) := by decide +kernel
/-- the block. -/
theorem off5_eq : ∀ k : T, k.val < 9 → k0_off5 (w11 k.val) = blkOff (Ring.bk 10 (k.val + 1)) := by decide +kernel
/-- Waiting for the trip's block: the semaphore, -/
theorem off6_eq : ∀ k : T, k0_off6 (w8 k.val) = semOff (Ring.sl 2 k.val) := by decide +kernel
/-- the slot, -/
theorem off7_eq : ∀ k : T, k0_off7 (w8 k.val) = slotOff (Ring.sl 2 k.val) := by decide +kernel
/-- the block. -/
theorem off8_eq : ∀ k : T, k0_off8 (w11 k.val) = blkOff (Ring.bk 10 k.val) := by decide +kernel
/-- The body reads the slot waited for -/
theorem off9_eq : ∀ k : T, k0_off9 (w8 k.val) = slotOff (Ring.sl 2 k.val) := by decide +kernel
/-- and writes the same slot of the other ring. -/
theorem off10_eq : ∀ k : T, k0_off10 (w8 k.val) = slotOff (Ring.sl 2 k.val) := by decide +kernel
/-- Sending the block out: the semaphore, -/
theorem off11_eq : ∀ k : T, k0_off11 (w8 k.val) = semOff (Ring.sl 2 k.val) := by decide +kernel
/-- the block, -/
theorem off12_eq : ∀ k : T, k0_off12 (w11 k.val) = blkOff (Ring.bk 10 k.val) := by decide +kernel
/-- the slot. -/
theorem off13_eq : ∀ k : T, k0_off13 (w8 k.val) = slotOff (Ring.sl 2 k.val) := by decide +kernel
/-- Waiting for the copy out before: the semaphore, -/
theorem off14_eq : ∀ k : T, 1 ≤ k.val → k0_off14 (w10 k.val) = semOff (Ring.sl 2 (k.val + 1)) := by decide +kernel
/-- the block, -/
theorem off15_eq : ∀ k : T, 1 ≤ k.val → k0_off15 (w11 k.val) = blkOff (Ring.bk 10 (k.val - 1)) := by decide +kernel
/-- the slot. -/
theorem off16_eq : ∀ k : T, 1 ≤ k.val → k0_off16 (w10 k.val) = slotOff (Ring.sl 2 (k.val + 1)) := by decide +kernel

/-! ## The side conditions the trip assumes -/

/-- Every rectangle of a copy or a wait of the trip lies in its array. -/
theorem chk1_ok : ∀ k : T, k0_chk1 k (w7 k.val) (w8 k.val) (w8 k.val) (w10 k.val) (w11 k.val) := by decide +kernel
/-- The slot the body reads lies in the ring. -/
theorem chk2_ok : ∀ k : T, k0_chk2 (w8 k.val) := by decide +kernel
/-- The slot the body writes lies in the ring. -/
theorem chk3_ok : ∀ k : T, k0_chk3 (w8 k.val) := by decide +kernel

/-! ## After the loop -/

/-- The slot of the last wait lies in the ring. -/
theorem chk4_ok : k0_chk4 (w10 10) := by decide +kernel
/-- Its block lies in the array. -/
theorem chk5_ok : k0_chk5 (w11 10) := by decide +kernel
/-- The last wait: the semaphore, -/
theorem off17_eq : k0_off17 (w10 10) = semOff 1 := by decide +kernel
/-- the block, -/
theorem off18_eq : k0_off18 (w11 10) = blkOff 9 := by decide +kernel
/-- the slot. -/
theorem off19_eq : k0_off19 (w10 10) = slotOff 1 := by decide +kernel

/-! ## Blocks, slots, cells -/

/-- The input. -/
abbrev xM : Memref sig .tc .hbm S10000x128 .f32 := Memref.whole main_arg0
/-- The result. -/
abbrev yM : Memref sig .tc .hbm S10000x128 .f32 := Memref.whole main_v2
/-- The input ring. -/
abbrev inM : Memref sig .tc .vmem S2x1000x128 .f32 := Memref.whole cc0_scoped0
/-- The output ring. -/
abbrev outM : Memref sig .tc .vmem S2x1000x128 .f32 := Memref.whole cc0_scoped2

/-- Block `b` of the input: rows `1000 b` to `1000 b + 999`. -/
def xblk (b : Fin 10) : Memref sig .tc .hbm S1000x128 .f32 :=
  xM.slice (Rect.unit (s := S10000x128) (blkOff b) S1000x128.size (blkOff_inb b)) (fun _ => rfl)
/-- Block `b` of the result. -/
def yblk (b : Fin 10) : Memref sig .tc .hbm S1000x128 .f32 :=
  yM.slice (Rect.unit (s := S10000x128) (blkOff b) S1000x128.size (blkOff_inb b)) (fun _ => rfl)
/-- Slot `s` of the input ring. -/
def islot (s : Fin 2) : Memref sig .tc .vmem S1000x128 .f32 :=
  (inM.slice (Rect.unit (s := S2x1000x128) (slotOff s) S1x1000x128.size (slotOff_inb s)) (fun _ => rfl)).squeeze S1000x128 squeezes_S1x1000x128_S1000x128
/-- Slot `s` of the output ring. -/
def oslot (s : Fin 2) : Memref sig .tc .vmem S1000x128 .f32 :=
  (outM.slice (Rect.unit (s := S2x1000x128) (slotOff s) S1x1000x128.size (slotOff_inb s)) (fun _ => rfl)).squeeze S1000x128 squeezes_S1x1000x128_S1000x128
/-- The semaphore of the input ring's slot `s`. -/
def icell (s : Fin 2) : DmaSems sig S_ := (cc0_scoped1.slice (Rect.unit (s := S2) (semOff s) S1.size (semOff_inb s))).squeeze S_ squeezes_S1_S_
/-- The semaphore of the output ring's slot `s`. -/
def ocell (s : Fin 2) : DmaSems sig S_ := (cc0_scoped3.slice (Rect.unit (s := S2) (semOff s) S1.size (semOff_inb s))).squeeze S_ squeezes_S1_S_

/-- The program's slice of the input semaphores is `icell s` when its offset is slot `s`'s. -/
theorem icell_congr {off : Fin 1 → Nat} {s : Fin 2} (e : off = semOff s) (hh) :
    (cc0_scoped1.slice (Rect.unit (s := S2) off S1.size hh)).squeeze S_ squeezes_S1_S_ = icell s :=
  congrArg (fun A : DmaSems sig S1 => A.squeeze S_ squeezes_S1_S_) (SemArray.slice_unit_congr _ e _ _)
/-- The same for the output semaphores, -/
theorem ocell_congr {off : Fin 1 → Nat} {s : Fin 2} (e : off = semOff s) (hh) :
    (cc0_scoped3.slice (Rect.unit (s := S2) off S1.size hh)).squeeze S_ squeezes_S1_S_ = ocell s :=
  congrArg (fun A : DmaSems sig S1 => A.squeeze S_ squeezes_S1_S_) (SemArray.slice_unit_congr _ e _ _)
/-- the input ring, -/
theorem islot_congr {off : Fin 3 → Nat} {s : Fin 2} (e : off = slotOff s) (hh hs) :
    (inM.slice (Rect.unit (s := S2x1000x128) off S1x1000x128.size hh) hs).squeeze S1000x128 squeezes_S1x1000x128_S1000x128 = islot s :=
  congrArg (fun M : Memref sig .tc .vmem S1x1000x128 .f32 => M.squeeze S1000x128 squeezes_S1x1000x128_S1000x128) (Memref.slice_unit_congr _ e _ _ _ _)
/-- the output ring, -/
theorem oslot_congr {off : Fin 3 → Nat} {s : Fin 2} (e : off = slotOff s) (hh hs) :
    (outM.slice (Rect.unit (s := S2x1000x128) off S1x1000x128.size hh) hs).squeeze S1000x128 squeezes_S1x1000x128_S1000x128 = oslot s :=
  congrArg (fun M : Memref sig .tc .vmem S1x1000x128 .f32 => M.squeeze S1000x128 squeezes_S1x1000x128_S1000x128) (Memref.slice_unit_congr _ e _ _ _ _)
/-- the input, -/
theorem xblk_congr {off : Fin 2 → Nat} {b : Fin 10} (e : off = blkOff b) (hh hs) :
    xM.slice (Rect.unit (s := S10000x128) off S1000x128.size hh) hs = xblk b := by
  subst e; rfl
/-- the result. -/
theorem yblk_congr {off : Fin 2 → Nat} {b : Fin 10} (e : off = blkOff b) (hh hs) :
    yM.slice (Rect.unit (s := S10000x128) off S1000x128.size hh) hs = yblk b := by
  subst e; rfl

/-! ## The program's slices under these names -/

/-- Before the loop: slot 0, its cell, block 0. -/
@[sl_canon] theorem icellPro (hh) : (cc0_scoped1.slice (Rect.unit (s := S2) k0_off1 S1.size hh)).squeeze S_ squeezes_S1_S_ = icell 0 := icell_congr (by decide) _
@[sl_canon] theorem islotPro (hh hs) : (inM.slice (Rect.unit (s := S2x1000x128) k0_off2 S1x1000x128.size hh) hs).squeeze S1000x128 squeezes_S1x1000x128_S1000x128 = islot 0 := islot_congr (by decide) _ _
@[sl_canon] theorem xblkPro (hh hs) : xM.slice (Rect.unit (s := S10000x128) ![0, 0] S1000x128.size hh) hs = xblk 0 := xblk_congr (by decide) _ _

/-- Trip `k`: the copy in of block `k + 1`. -/
@[sl_canon] theorem icellI (k : T) (hk : k.val < 9) (hh) : (cc0_scoped1.slice (Rect.unit (s := S2) (k0_off3 (w7 k.val)) S1.size hh)).squeeze S_ squeezes_S1_S_ = icell (Ring.sl 2 (k.val + 1)) := icell_congr (off3_eq k hk) _
@[sl_canon] theorem islotI (k : T) (hk : k.val < 9) (hh hs) : (inM.slice (Rect.unit (s := S2x1000x128) (k0_off4 (w7 k.val)) S1x1000x128.size hh) hs).squeeze S1000x128 squeezes_S1x1000x128_S1000x128 = islot (Ring.sl 2 (k.val + 1)) := islot_congr (off4_eq k hk) _ _
@[sl_canon] theorem xblkI (k : T) (hk : k.val < 9) (hh hs) : xM.slice (Rect.unit (s := S10000x128) (k0_off5 (w11 k.val)) S1000x128.size hh) hs = xblk (Ring.bk 10 (k.val + 1)) := xblk_congr (off5_eq k hk) _ _
/-- Trip `k`: the wait for block `k`, and the slot the body reads. -/
@[sl_canon] theorem icellW (k : T) (hh) : (cc0_scoped1.slice (Rect.unit (s := S2) (k0_off6 (w8 k.val)) S1.size hh)).squeeze S_ squeezes_S1_S_ = icell (Ring.sl 2 k.val) := icell_congr (off6_eq k) _
@[sl_canon] theorem islotW (k : T) (hh hs) : (inM.slice (Rect.unit (s := S2x1000x128) (k0_off7 (w8 k.val)) S1x1000x128.size hh) hs).squeeze S1000x128 squeezes_S1x1000x128_S1000x128 = islot (Ring.sl 2 k.val) := islot_congr (off7_eq k) _ _
@[sl_canon] theorem xblkW (k : T) (hh hs) : xM.slice (Rect.unit (s := S10000x128) (k0_off8 (w11 k.val)) S1000x128.size hh) hs = xblk (Ring.bk 10 k.val) := xblk_congr (off8_eq k) _ _
@[sl_canon] theorem islotR (k : T) (hh hs) : (inM.slice (Rect.unit (s := S2x1000x128) (k0_off9 (w8 k.val)) S1x1000x128.size hh) hs).squeeze S1000x128 squeezes_S1x1000x128_S1000x128 = islot (Ring.sl 2 k.val) := islot_congr (off9_eq k) _ _
/-- Trip `k`: the slot the body stores, and its copy out to block `k`. -/
@[sl_canon] theorem oslotS (k : T) (hh hs) : (outM.slice (Rect.unit (s := S2x1000x128) (k0_off10 (w8 k.val)) S1x1000x128.size hh) hs).squeeze S1000x128 squeezes_S1x1000x128_S1000x128 = oslot (Ring.sl 2 k.val) := oslot_congr (off10_eq k) _ _
@[sl_canon] theorem ocellO (k : T) (hh) : (cc0_scoped3.slice (Rect.unit (s := S2) (k0_off11 (w8 k.val)) S1.size hh)).squeeze S_ squeezes_S1_S_ = ocell (Ring.sl 2 k.val) := ocell_congr (off11_eq k) _
@[sl_canon] theorem yblkO (k : T) (hh hs) : yM.slice (Rect.unit (s := S10000x128) (k0_off12 (w11 k.val)) S1000x128.size hh) hs = yblk (Ring.bk 10 k.val) := yblk_congr (off12_eq k) _ _
@[sl_canon] theorem oslotO (k : T) (hh hs) : (outM.slice (Rect.unit (s := S2x1000x128) (k0_off13 (w8 k.val)) S1x1000x128.size hh) hs).squeeze S1000x128 squeezes_S1x1000x128_S1000x128 = oslot (Ring.sl 2 k.val) := oslot_congr (off13_eq k) _ _
/-- Trip `k`: the wait for the copy out of block `k - 1`. -/
@[sl_canon] theorem ocellB (k : T) (hk : 1 ≤ k.val) (hh) : (cc0_scoped3.slice (Rect.unit (s := S2) (k0_off14 (w10 k.val)) S1.size hh)).squeeze S_ squeezes_S1_S_ = ocell (Ring.sl 2 (k.val + 1)) := ocell_congr (off14_eq k hk) _
@[sl_canon] theorem yblkB (k : T) (hk : 1 ≤ k.val) (hh hs) : yM.slice (Rect.unit (s := S10000x128) (k0_off15 (w11 k.val)) S1000x128.size hh) hs = yblk (Ring.bk 10 (k.val - 1)) := yblk_congr (off15_eq k hk) _ _
@[sl_canon] theorem oslotB (k : T) (hk : 1 ≤ k.val) (hh hs) : (outM.slice (Rect.unit (s := S2x1000x128) (k0_off16 (w10 k.val)) S1x1000x128.size hh) hs).squeeze S1000x128 squeezes_S1x1000x128_S1000x128 = oslot (Ring.sl 2 (k.val + 1)) := oslot_congr (off16_eq k hk) _ _
/-- After the loop: the wait for the copy out of block 9. -/
@[sl_canon] theorem ocellE (hh) : (cc0_scoped3.slice (Rect.unit (s := S2) (k0_off17 (w10 10)) S1.size hh)).squeeze S_ squeezes_S1_S_ = ocell 1 := ocell_congr off17_eq _
@[sl_canon] theorem yblkE (hh hs) : yM.slice (Rect.unit (s := S10000x128) (k0_off18 (w11 10)) S1000x128.size hh) hs = yblk 9 := yblk_congr off18_eq _ _
@[sl_canon] theorem oslotE (hh hs) : (outM.slice (Rect.unit (s := S2x1000x128) (k0_off19 (w10 10)) S1x1000x128.size hh) hs).squeeze S1000x128 squeezes_S1x1000x128_S1000x128 = oslot 1 := oslot_congr off19_eq _ _

end Cert.Proof.Mlp

end
-- ==== Proof.Trip.lean ====
/-
  One trip of the software pipeline.

  `ringAt k` is what the core holds before trip `k`: block `k` of the input on its way into input slot `k % 2`, every other
  block of the input at home, the other input slot free; block `k - 1` of the result on its way out of output slot
  `(k + 1) % 2`, the blocks before it delivered, the blocks from `k` on untouched, output slot `k % 2` free. A trip starts
  the copy of block `k + 1`, waits for block `k`, computes the result's block from it, starts its copy out and waits for
  the copy of block `k - 1`. What a copy carries is kept as a fact about what its destination reads.
-/
module

public import proofs.«01_k».proof.Proof.Words
public import Idealize.ShloMosaic.Lib.VecWindow

@[expose] public section

set_option maxRecDepth 16384

noncomputable section

namespace Cert.Proof.Mlp

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- What the kernel computes from a block of 1000 rows and the four parameters. -/
def mlp (x : Vec F S1000x128 .f32) (w1 : Vec F S128x128 .f32) (b1 : Vec F S1x128 .f32) (w2 : Vec F S128x128 .f32) (b2 : Vec F S1x128 .f32) :
    Vec F S1000x128 .f32 := k0_pay2 (k0_pay1 x w1 b1 w2) b2

section Pieces
variable (c : Dev nD) (X : Buf (Elt F) (xM.view.loc (c : Thread nD τ))) (R : Fin 10 → Vec F S1000x128 .f32)

/-- A slot's semaphore, drained. -/
abbrev icellP (s : Fin 2) : sProp 𝕄 := semVal ((c : Thread nD τ), SemLoc.dma (icell s).sem) 0
/-- An output slot's semaphore, drained. -/
abbrev ocellP (s : Fin 2) : sProp 𝕄 := semVal ((c : Thread nD τ), SemLoc.dma (ocell s).sem) 0
/-- A slot held at contents `f`. -/
abbrev islotP (s : Fin 2) (f : Buf (Elt F) ((islot s).view.loc (c : Thread nD τ))) : sProp 𝕄 :=
  (islot s).view.loc (c : Thread nD τ) ↦[(islot s).view.set]{fullShare} f
/-- An output slot held at contents `f`. -/
abbrev oslotP (s : Fin 2) (f : Buf (Elt F) ((oslot s).view.loc (c : Thread nD τ))) : sProp 𝕄 :=
  (oslot s).view.loc (c : Thread nD τ) ↦[(oslot s).view.set]{fullShare} f
/-- Block `b` of the input at home. -/
abbrev xP (b : Fin 10) : sProp 𝕄 := (xblk b).view.loc (c : Thread nD τ) ↦[(xblk b).view.set]{fullShare} X
/-- Block `b` of the result held at contents `f`. -/
abbrev yP (b : Fin 10) (f : Buf (Elt F) ((yblk b).view.loc (c : Thread nD τ))) : sProp 𝕄 :=
  (yblk b).view.loc (c : Thread nD τ) ↦[(yblk b).view.set]{fullShare} f

/-- Block `b` of the input, as a value. -/
abbrev xval (b : Fin 10) : Vec F S1000x128 .f32 := (xblk b).view.read (Elt F) X

/-- A copy of a block counts 16000 units on its semaphore. -/
abbrev units : ℕ := 16000

/-- Block `b` on its way into slot `s`. -/
abbrev inFlight (s : Fin 2) (b : Fin 10) : sProp 𝕄 :=
  iprop(∃ f, Transfers.Flight countersEmb (c : Thread nD τ) (SemLoc.dma (icell s).sem) () units iprop(islotP c s f ∗ xP c X b)
    ∗ ⌜(islot s).view.read (Elt F) f = xval c X b⌝)
/-- Slot `s` free, its semaphore drained. -/
abbrev inFree (s : Fin 2) : sProp 𝕄 := iprop(∃ f, islotP c s f ∗ icellP c s)
/-- Block `b` of the result on its way out of slot `s`. -/
abbrev outFlight (s : Fin 2) (b : Fin 10) : sProp 𝕄 :=
  iprop(∃ g f, Transfers.Flight countersEmb (c : Thread nD τ) (SemLoc.dma (ocell s).sem) () units iprop(yP c b g ∗ oslotP c s f)
    ∗ ⌜(yblk b).view.read (Elt F) g = R b⌝)
/-- Output slot `s` free, its semaphore drained. -/
abbrev outFree (s : Fin 2) : sProp 𝕄 := iprop(∃ f, oslotP c s f ∗ ocellP c s)
/-- Block `b` of the result at anything; -/
abbrev yAny (b : Fin 10) : sProp 𝕄 := iprop(∃ g, yP c b g)
/-- at its value. -/
abbrev yDone (b : Fin 10) : sProp 𝕄 := iprop(∃ g, yP c b g ∗ ⌜(yblk b).view.read (Elt F) g = R b⌝)

end Pieces

section Trip

variable (c : Dev nD) (X : Buf (Elt F) (xM.view.loc (c : Thread nD τ)))
  (arg1 : Memref sig .tc .vmem S128x128 .f32) (harg1 : arg1.IsWhole) (arg2 : Memref sig .tc .vmem S1x128 .f32) (harg2 : arg2.IsWhole)
  (arg3 : Memref sig .tc .vmem S128x128 .f32) (harg3 : arg3.IsWhole) (arg4 : Memref sig .tc .vmem S1x128 .f32) (harg4 : arg4.IsWhole)
  (g1 : Buf (Elt F) (arg1.view.loc (c : Thread nD τ))) (g2 : Buf (Elt F) (arg2.view.loc (c : Thread nD τ)))
  (g3 : Buf (Elt F) (arg3.view.loc (c : Thread nD τ))) (g4 : Buf (Elt F) (arg4.view.loc (c : Thread nD τ)))

/-- Block `b` of the result, as a value. -/
def resBlk (b : Fin 10) : Vec F S1000x128 .f32 :=
  mlp (xval c X b) (arg1.view.read (Elt F) g1) (arg2.view.read (Elt F) g2) (arg3.view.read (Elt F) g3) (arg4.view.read (Elt F) g4)

/-- The four parameters, staged, and the core's account of waits. -/
abbrev params : sProp 𝕄 :=
  iprop((arg1.view.loc (c : Thread nD τ) ↦[arg1.view.set]{fullShare} g1) ∗ (arg2.view.loc (c : Thread nD τ) ↦[arg2.view.set]{fullShare} g2)
    ∗ (arg3.view.loc (c : Thread nD τ) ↦[arg3.view.set]{fullShare} g3) ∗ (arg4.view.loc (c : Thread nD τ) ↦[arg4.view.set]{fullShare} g4)
    ∗ ∃ W, owes (c : Thread nD τ) 0 W)

/-- One trip, the words those before trip `k`. -/
abbrev tripG (k : T) : Prog (TpuEff nD τ sig (Elt F) Λ₀ .tc) (BitVec 32 × BitVec 32 × BitVec 32 × BitVec 32 × BitVec 32) :=
  k0_t1_body (F := F) xM (Memref.isWhole_whole _) arg1 harg1 arg2 harg2 arg3 harg3 arg4 harg4 yM (Memref.isWhole_whole _)
    inM (Memref.isWhole_whole _) cc0_scoped1 outM (Memref.isWhole_whole _) cc0_scoped3 k (wordsAt k.val)

/-- What a copy out carries, the output slot stored from an input slot that reads block `b`: the result's block `b`. -/
theorem carried (b : Fin 10) (s s' : Fin 2) (fi : Buf (Elt F) ((islot s).view.loc (c : Thread nD τ))) (fo : Buf (Elt F) ((oslot s').view.loc (c : Thread nD τ)))
    (hfi : (islot s).view.read (Elt F) fi = xval c X b) :
    (ReadAs.same.apply ((oslot s').view.read (Elt F) ((oslot s').view.writes (Elt F) fo
      [⟨Rect.unit (s := S1000x128) ![0, 0] S1000x128.size inb_S1000x128_S1000x128_0_0,
        k0_pay2 (k0_pay1 ((islot s).view.readAt (Elt F) (Rect.unit (s := S1000x128) ![0, 0] S1000x128.size inb_S1000x128_S1000x128_0_0).toLoadRect fi)
            (arg1.view.readAt (Elt F) (Rect.unit (s := S128x128) ![0, 0] S128x128.size inb_S128x128_S128x128_0_0).toLoadRect g1)
            (arg2.view.readAt (Elt F) (Rect.unit (s := S1x128) ![0, 0] S1x128.size inb_S1x128_S1x128_0_0).toLoadRect g2)
            (arg3.view.readAt (Elt F) (Rect.unit (s := S128x128) ![0, 0] S128x128.size inb_S128x128_S128x128_0_0).toLoadRect g3))
          (arg4.view.readAt (Elt F) (Rect.unit (s := S1x128) ![0, 0] S1x128.size inb_S1x128_S1x128_0_0).toLoadRect g4)⟩])) : S1000x128.Idx → Elt F .f32) = (resBlk c X arg1 arg2 arg3 arg4 g1 g2 g3 g4) b := by
  have e0 := (View.readAt_full (islot s).view fi inb_S1000x128_S1000x128_0_0).trans hfi
  have e1 := View.readAt_full arg1.view g1 inb_S128x128_S128x128_0_0
  have e2 := View.readAt_full arg2.view g2 inb_S1x128_S1x128_0_0
  have e3 := View.readAt_full arg3.view g3 inb_S128x128_S128x128_0_0
  have e4 := View.readAt_full arg4.view g4 inb_S1x128_S1x128_0_0
  refine (View.read_writes_full (oslot s').view fo inb_S1000x128_S1000x128_0_0 _ []).trans ?_
  unfold resBlk mlp
  exact congr (congrArg k0_pay2 (congr (congr (congr (congrArg k0_pay1 e0) e1) e2) e3)) e4

set_option backward.proofsInPublic true in
/-- A trip with a trip before it and one after it. -/
theorem tripMid (k : T) (hk9 : k.val < 9) (hk1 : 1 ≤ k.val) :
    iprop(params c arg1 arg2 arg3 arg4 g1 g2 g3 g4 ∗ xP c X (Ring.bk 10 (k.val + 1)) ∗ inFlight c X (Ring.sl 2 k.val) (Ring.bk 10 k.val)
      ∗ inFree c (Ring.sl 2 (k.val + 1)) ∗ yAny c (Ring.bk 10 k.val) ∗ outFree c (Ring.sl 2 k.val) ∗ outFlight c (resBlk c X arg1 arg2 arg3 arg4 g1 g2 g3 g4) (Ring.sl 2 (k.val + 1)) (Ring.bk 10 (k.val - 1)))
    ⊢ wp frame (wpE (defs₀ (F := F)) Variants.none (c : Thread nD τ) none) Set.univ (tripG arg1 harg1 arg2 harg2 arg3 harg3 arg4 harg4 k)
      (fun acc => iprop(⌜acc = wordsAt (k.val + 1)⌝ ∗ params c arg1 arg2 arg3 arg4 g1 g2 g3 g4 ∗ xP c X (Ring.bk 10 k.val)
        ∗ inFlight c X (Ring.sl 2 (k.val + 1)) (Ring.bk 10 (k.val + 1)) ∗ inFree c (Ring.sl 2 k.val) ∗ yDone c (resBlk c X arg1 arg2 arg3 arg4 g1 g2 g3 g4) (Ring.bk 10 (k.val - 1)) ∗ outFree c (Ring.sl 2 (k.val + 1)) ∗ outFlight c (resBlk c X arg1 arg2 arg3 arg4 g1 g2 g3 g4) (Ring.sl 2 k.val) (Ring.bk 10 k.val))) := by
  iintro ⟨⟨H1, H2, H3, H4, ⟨%W, HW⟩⟩, Hx, ⟨%fi, HFi, %hfi⟩, ⟨%fj, Hsj, Hcj⟩, ⟨%gy, Hy⟩, ⟨%fo, Hso, Hco⟩, ⟨%gp, %fp, HFp, %hgp⟩⟩
  have hc1 : k0_cond1 k (w11 k.val) = 1#1 := by rw [cond1_eq, if_pos hk9]
  have hc2 := cond2_eq k
  have hc5 := cond5_eq k
  have hc7 : k0_cond7 k (w11 k.val) = 1#1 := by rw [cond7_eq, if_pos hk1]
  have h1 := chk1_ok k
  have h2 := chk2_ok k
  have h3 := chk3_ok k
  dsimp only [tripG, wordsAt]
  sl_unfold [k0_t1_body]
  sl_exec
  have hv : (tripMid.sl.v78_r0 k, tripMid.sl.v136_r0 k, tripMid.sl.v136_r0 k, tripMid.sl.v150_r0 k, tripMid.sl.v62_r0 k) = wordsAt (k.val + 1) := by
    clear * -
    revert k
    decide +kernel
  sl_step
  isplitr; · ipureintro; exact hv
  isplitl [H1 H2 H3 H4 HW]
  · isplitl [H1]; · iexact H1
    isplitl [H2]; · iexact H2
    isplitl [H3]; · iexact H3
    isplitl [H4]; · iexact H4
    iexists _; iexact HW
  isplitl [HFi_src]; · iexact HFi_src
  isplitl [Hcj]
  · iexists _; isplitl [Hcj]; · iexact Hcj
    ipureintro
    rw [View.read_writes_whole]; rfl
  isplitl [HFi_dst HFi]
  · iexists _; isplitl [HFi_dst]; · iexact HFi_dst
    iexact HFi
  isplitl [HFp_dst]
  · iexists gp; isplitl [HFp_dst]; · iexact HFp_dst
    ipureintro; exact hgp
  isplitl [HFp_src HFp]
  · iexists _; isplitl [HFp_src]; · iexact HFp_src
    iexact HFp
  iexists _, _; isplitl [Hco]; · iexact Hco
  ipureintro
  rw [View.read_writes_whole]
  exact carried c X arg1 arg2 arg3 arg4 g1 g2 g3 g4 _ _ _ fi fo hfi

set_option backward.proofsInPublic true in
/-- The first trip: no copy out to wait for. -/
theorem tripFirst (k : T) (hk9 : k.val < 9) (hk0 : k.val = 0) :
    iprop(params c arg1 arg2 arg3 arg4 g1 g2 g3 g4 ∗ xP c X (Ring.bk 10 (k.val + 1)) ∗ inFlight c X (Ring.sl 2 k.val) (Ring.bk 10 k.val)
      ∗ inFree c (Ring.sl 2 (k.val + 1)) ∗ yAny c (Ring.bk 10 k.val) ∗ outFree c (Ring.sl 2 k.val))
    ⊢ wp frame (wpE (defs₀ (F := F)) Variants.none (c : Thread nD τ) none) Set.univ (tripG arg1 harg1 arg2 harg2 arg3 harg3 arg4 harg4 k)
      (fun acc => iprop(⌜acc = wordsAt (k.val + 1)⌝ ∗ params c arg1 arg2 arg3 arg4 g1 g2 g3 g4 ∗ xP c X (Ring.bk 10 k.val)
        ∗ inFlight c X (Ring.sl 2 (k.val + 1)) (Ring.bk 10 (k.val + 1)) ∗ inFree c (Ring.sl 2 k.val) ∗ outFlight c (resBlk c X arg1 arg2 arg3 arg4 g1 g2 g3 g4) (Ring.sl 2 k.val) (Ring.bk 10 k.val))) := by
  iintro ⟨⟨H1, H2, H3, H4, ⟨%W, HW⟩⟩, Hx, ⟨%fi, HFi, %hfi⟩, ⟨%fj, Hsj, Hcj⟩, ⟨%gy, Hy⟩, ⟨%fo, Hso, Hco⟩⟩
  have hc1 : k0_cond1 k (w11 k.val) = 1#1 := by rw [cond1_eq, if_pos hk9]
  have hc2 := cond2_eq k
  have hc5 := cond5_eq k
  have hc7 : ¬ k0_cond7 k (w11 k.val) = 1#1 := by rw [cond7_eq, if_neg (by omega)]; decide
  have h1 := chk1_ok k
  have h2 := chk2_ok k
  have h3 := chk3_ok k
  dsimp only [tripG, wordsAt]
  sl_unfold [k0_t1_body]
  sl_exec
  have hv : (tripFirst.sl.v78_r0 k, tripFirst.sl.v136_r0 k, tripFirst.sl.v136_r0 k, tripFirst.sl.v150_r0 k, tripFirst.sl.v62_r0 k) = wordsAt (k.val + 1) := by
    clear * -
    revert k
    decide +kernel
  sl_step
  isplitr; · ipureintro; exact hv
  isplitl [H1 H2 H3 H4 HW]
  · isplitl [H1]; · iexact H1
    isplitl [H2]; · iexact H2
    isplitl [H3]; · iexact H3
    isplitl [H4]; · iexact H4
    iexists _; iexact HW
  isplitl [HFi_src]; · iexact HFi_src
  isplitl [Hcj]
  · iexists _; isplitl [Hcj]; · iexact Hcj
    ipureintro
    rw [View.read_writes_whole]; rfl
  isplitl [HFi_dst HFi]
  · iexists _; isplitl [HFi_dst]; · iexact HFi_dst
    iexact HFi
  iexists _, _; isplitl [Hco]; · iexact Hco
  ipureintro
  rw [View.read_writes_whole]
  exact carried c X arg1 arg2 arg3 arg4 g1 g2 g3 g4 _ _ _ fi fo hfi

set_option backward.proofsInPublic true in
/-- The last trip: no copy in to start. -/
theorem tripLast (k : T) (hk1 : 1 ≤ k.val) (hk9' : k.val = 9) :
    iprop(params c arg1 arg2 arg3 arg4 g1 g2 g3 g4 ∗ inFlight c X (Ring.sl 2 k.val) (Ring.bk 10 k.val) ∗ yAny c (Ring.bk 10 k.val)
      ∗ outFree c (Ring.sl 2 k.val) ∗ outFlight c (resBlk c X arg1 arg2 arg3 arg4 g1 g2 g3 g4) (Ring.sl 2 (k.val + 1)) (Ring.bk 10 (k.val - 1)))
    ⊢ wp frame (wpE (defs₀ (F := F)) Variants.none (c : Thread nD τ) none) Set.univ (tripG arg1 harg1 arg2 harg2 arg3 harg3 arg4 harg4 k)
      (fun acc => iprop(⌜acc = wordsAt (k.val + 1)⌝ ∗ params c arg1 arg2 arg3 arg4 g1 g2 g3 g4 ∗ xP c X (Ring.bk 10 k.val)
        ∗ inFree c (Ring.sl 2 k.val) ∗ yDone c (resBlk c X arg1 arg2 arg3 arg4 g1 g2 g3 g4) (Ring.bk 10 (k.val - 1)) ∗ outFree c (Ring.sl 2 (k.val + 1)) ∗ outFlight c (resBlk c X arg1 arg2 arg3 arg4 g1 g2 g3 g4) (Ring.sl 2 k.val) (Ring.bk 10 k.val))) := by
  iintro ⟨⟨H1, H2, H3, H4, ⟨%W, HW⟩⟩, ⟨%fi, HFi, %hfi⟩, ⟨%gy, Hy⟩, ⟨%fo, Hso, Hco⟩, ⟨%gp, %fp, HFp, %hgp⟩⟩
  have hc1 : ¬ k0_cond1 k (w11 k.val) = 1#1 := by rw [cond1_eq, if_neg (by omega)]; decide
  have hc2 := cond2_eq k
  have hc5 := cond5_eq k
  have hc7 : k0_cond7 k (w11 k.val) = 1#1 := by rw [cond7_eq, if_pos hk1]
  have h1 := chk1_ok k
  have h2 := chk2_ok k
  have h3 := chk3_ok k
  dsimp only [tripG, wordsAt]
  sl_unfold [k0_t1_body]
  sl_exec
  have hv : (tripLast.sl.v78_r0 k, tripLast.sl.v136_r0 k, tripLast.sl.v136_r0 k, tripLast.sl.v150_r0 k, tripLast.sl.v62_r0 k) = wordsAt (k.val + 1) := by
    clear * -
    revert k
    decide +kernel
  sl_step
  isplitr; · ipureintro; exact hv
  isplitl [H1 H2 H3 H4 HW]
  · isplitl [H1]; · iexact H1
    isplitl [H2]; · iexact H2
    isplitl [H3]; · iexact H3
    isplitl [H4]; · iexact H4
    iexists _; iexact HW
  isplitl [HFi_src]; · iexact HFi_src
  isplitl [HFi_dst HFi]
  · iexists _; isplitl [HFi_dst]; · iexact HFi_dst
    iexact HFi
  isplitl [HFp_dst]
  · iexists gp; isplitl [HFp_dst]; · iexact HFp_dst
    ipureintro; exact hgp
  isplitl [HFp_src HFp]
  · iexists _; isplitl [HFp_src]; · iexact HFp_src
    iexact HFp
  iexists _, _; isplitl [Hco]; · iexact Hco
  ipureintro
  rw [View.read_writes_whole]
  exact carried c X arg1 arg2 arg3 arg4 g1 g2 g3 g4 _ _ _ fi fo hfi

end Trip

end Cert.Proof.Mlp

end
-- ==== Proof.Body.lean ====
/-
  The whole body: the copy of block 0 in, the ten trips, the wait for the last copy out.
-/
module

public import proofs.«01_k».proof.Proof.Trip

@[expose] public section

set_option maxRecDepth 16384

noncomputable section

namespace Cert.Proof.Mlp

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Ring

variable (c : Dev nD) (X : Buf (Elt F) (xM.view.loc (c : Thread nD τ)))
  (arg1 : Memref sig .tc .vmem S128x128 .f32) (harg1 : arg1.IsWhole) (arg2 : Memref sig .tc .vmem S1x128 .f32) (harg2 : arg2.IsWhole)
  (arg3 : Memref sig .tc .vmem S128x128 .f32) (harg3 : arg3.IsWhole) (arg4 : Memref sig .tc .vmem S1x128 .f32) (harg4 : arg4.IsWhole)
  (g1 : Buf (Elt F) (arg1.view.loc (c : Thread nD τ))) (g2 : Buf (Elt F) (arg2.view.loc (c : Thread nD τ)))
  (g3 : Buf (Elt F) (arg3.view.loc (c : Thread nD τ))) (g4 : Buf (Elt F) (arg4.view.loc (c : Thread nD τ)))

/-- The rings before trip `k`, the result's blocks to be `R`. -/
def ringAt (R : Fin 10 → Vec F S1000x128 .f32) (k : ℕ) : sProp 𝕄 :=
  iprop(bigSep (Ring.homeSet 1 k) (xP c X)
    ∗ Ring.roleAt (NB := 10) (inFree c (Ring.sl 2 k)) (inFlight c X (Ring.sl 2 k)) k ∗ inFree c (Ring.sl 2 (k + 1))
    ∗ bigSep (Ring.aheadSet k) (yAny c) ∗ bigSep (Ring.behindSet 1 k) (yDone c R)
    ∗ outFree c (Ring.sl 2 k) ∗ Ring.roleBAt (NB := 10) 1 (outFree c (Ring.sl 2 (k + 1))) (outFlight c R (Ring.sl 2 (k + 1))) k)

omit [FloatOps F] in
/-- A family of blocks with one block taken apart. -/
theorem blocks_insert {Φ : Fin 10 → sProp 𝕄} {S : Finset (Fin 10)} {b : Fin 10} (h : b ∉ S) :
    bigSep (insert b S) Φ = iprop(Φ b ∗ bigSep S Φ) := bigSep_insert h
omit [FloatOps F] in
/-- Two slots on is the same slot. -/
theorem sl_two_back (k : ℕ) : Ring.sl 2 (k + 1 + 1) = Ring.sl 2 k := Ring.sl_add 2 k

/-- One trip takes the rings from `k` to `k + 1`. -/
theorem trip (k : T) :
    iprop(params c arg1 arg2 arg3 arg4 g1 g2 g3 g4 ∗ ringAt c X (resBlk c X arg1 arg2 arg3 arg4 g1 g2 g3 g4) k.val)
    ⊢ wp frame (wpE (defs₀ (F := F)) Variants.none (c : Thread nD τ) none) Set.univ (tripG arg1 harg1 arg2 harg2 arg3 harg3 arg4 harg4 k)
      (fun acc => iprop(⌜acc = wordsAt (k.val + 1)⌝ ∗ params c arg1 arg2 arg3 arg4 g1 g2 g3 g4
        ∗ ringAt c X (resBlk c X arg1 arg2 arg3 arg4 g1 g2 g3 g4) (k.val + 1))) := by
  have hk : k.val < 10 := Nat.lt_of_lt_of_eq k.isLt trips_eq
  unfold ringAt
  rw [Ring.roleAt_of_lt _ _ _ hk, Ring.aheadSet_open k.val hk, blocks_insert (Ring.bk_not_mem_aheadSet_succ k.val hk),
    Ring.roleBAt_of_le _ _ _ _ (Nat.le_add_left 1 k.val), sl_two_back, Nat.add_sub_cancel]
  by_cases hk9 : k.val < 9
  · rw [Ring.homeSet_out 1 k.val (by omega), blocks_insert (Ring.bkL_not_mem_erase 1 k.val), Ring.homeSet_succ 1 k.val (by omega),
      blocks_insert (Ring.bk_not_mem_erase 1 k.val hk (by decide)), Ring.roleAt_of_lt _ _ (k.val + 1) (by omega)]
    by_cases hk1 : 1 ≤ k.val
    · rw [Ring.roleBAt_of_le _ _ _ _ hk1, Ring.behindSet_close 1 k.val hk1 hk, blocks_insert (Ring.bk_not_mem_behindSet 1 k.val hk1 hk)]
      iintro ⟨Hp, ⟨Hx, Hxs⟩, HF, Hi, ⟨Hy, Hys⟩, Hd, Ho, HG⟩
      iapply (wp_wand_r Idealize.ShloMosaic.frame (wpE (defs₀ (F := F)) Variants.none (c : Thread nD τ) none) Set.univ)
      isplitl [Hp Hx HF Hi Hy Ho HG]
      · iapply (tripMid c X arg1 harg1 arg2 harg2 arg3 harg3 arg4 harg4 g1 g2 g3 g4 k hk9 hk1)
        isplitl [Hp]; · iexact Hp
        isplitl [Hx]; · iexact Hx
        isplitl [HF]; · iexact HF
        isplitl [Hi]; · iexact Hi
        isplitl [Hy]; · iexact Hy
        isplitl [Ho]; · iexact Ho
        iexact HG
      · iintro %acc ⟨Ha, Hp, Hx, HF, Hi, Hy, Ho, HG⟩
        isplitl [Ha]; · iexact Ha
        isplitl [Hp]; · iexact Hp
        isplitl [Hx Hxs]
        · isplitl [Hx]; · iexact Hx
          iexact Hxs
        isplitl [HF]; · iexact HF
        isplitl [Hi]; · iexact Hi
        isplitl [Hys]; · iexact Hys
        isplitl [Hy Hd]
        · isplitl [Hy]; · iexact Hy
          iexact Hd
        isplitl [Ho]; · iexact Ho
        iexact HG
    · rw [Ring.roleBAt_of_lt _ _ _ _ (by omega), Ring.behindSet_boot 1 k.val (by omega), Ring.behindSet_boot 1 (k.val + 1) (by omega)]
      iintro ⟨Hp, ⟨Hx, Hxs⟩, HF, Hi, ⟨Hy, Hys⟩, Hd, Ho, HG⟩
      iapply (wp_wand_r Idealize.ShloMosaic.frame (wpE (defs₀ (F := F)) Variants.none (c : Thread nD τ) none) Set.univ)
      isplitl [Hp Hx HF Hi Hy Ho]
      · iapply (tripFirst c X arg1 harg1 arg2 harg2 arg3 harg3 arg4 harg4 g1 g2 g3 g4 k hk9 (by omega))
        isplitl [Hp]; · iexact Hp
        isplitl [Hx]; · iexact Hx
        isplitl [HF]; · iexact HF
        isplitl [Hi]; · iexact Hi
        isplitl [Hy]; · iexact Hy
        iexact Ho
      · iintro %acc ⟨Ha, Hp, Hx, HF, Hi, HG'⟩
        isplitl [Ha]; · iexact Ha
        isplitl [Hp]; · iexact Hp
        isplitl [Hx Hxs]
        · isplitl [Hx]; · iexact Hx
          iexact Hxs
        isplitl [HF]; · iexact HF
        isplitl [Hi]; · iexact Hi
        isplitl [Hys]; · iexact Hys
        isplitl [Hd]; · iexact Hd
        isplitl [HG]; · iexact HG
        iexact HG'
  · have hk1 : 1 ≤ k.val := by omega
    rw [Ring.homeSet_succ_tail 1 k.val (by omega) hk, blocks_insert (Ring.bk_not_mem_homeSet 1 k.val hk (by decide)), Ring.roleAt_of_le _ _ (k.val + 1) (by omega),
      Ring.roleBAt_of_le _ _ _ _ hk1, Ring.behindSet_close 1 k.val hk1 hk, blocks_insert (Ring.bk_not_mem_behindSet 1 k.val hk1 hk)]
    iintro ⟨Hp, Hxs, HF, Hi, ⟨Hy, Hys⟩, Hd, Ho, HG⟩
    iapply (wp_wand_r Idealize.ShloMosaic.frame (wpE (defs₀ (F := F)) Variants.none (c : Thread nD τ) none) Set.univ)
    isplitl [Hp HF Hy Ho HG]
    · iapply (tripLast c X arg1 harg1 arg2 harg2 arg3 harg3 arg4 harg4 g1 g2 g3 g4 k hk1 (by omega))
      isplitl [Hp]; · iexact Hp
      isplitl [HF]; · iexact HF
      isplitl [Hy]; · iexact Hy
      isplitl [Ho]; · iexact Ho
      iexact HG
    · iintro %acc ⟨Ha, Hp, Hx, Hi', Hy, Ho, HG⟩
      isplitl [Ha]; · iexact Ha
      isplitl [Hp]; · iexact Hp
      isplitl [Hx Hxs]
      · isplitl [Hx]; · iexact Hx
        iexact Hxs
      isplitl [Hi]; · iexact Hi
      isplitl [Hi']; · iexact Hi'
      isplitl [Hys]; · iexact Hys
      isplitl [Hy Hd]
      · isplitl [Hy]; · iexact Hy
        iexact Hd
      isplitl [Ho]; · iexact Ho
      iexact HG

/-- The loop's invariant: the words and the rings. -/
def invAt (k : ℕ) (acc : BitVec 32 × BitVec 32 × BitVec 32 × BitVec 32 × BitVec 32) : sProp 𝕄 :=
  iprop(⌜acc = wordsAt k⌝ ∗ params c arg1 arg2 arg3 arg4 g1 g2 g3 g4 ∗ ringAt c X (resBlk c X arg1 arg2 arg3 arg4 g1 g2 g3 g4) k)

/-- The body on given staged parameters. -/
abbrev bodyG : Prog (TpuEff nD τ sig (Elt F) Λ₀ .tc) PUnit :=
  cc0__mlp_body (F := F) xM (Memref.isWhole_whole _) arg1 harg1 arg2 harg2 arg3 harg3 arg4 harg4 yM (Memref.isWhole_whole _)
    inM (Memref.isWhole_whole _) cc0_scoped1 outM (Memref.isWhole_whole _) cc0_scoped3

omit [FloatOps F] in
/-- Before the first trip every block but 0 is at home; -/
theorem xs_open : bigSep Finset.univ (xP c X) = iprop(xP c X 0 ∗ bigSep (Ring.homeSet 1 0) (xP c X)) := by
  have e : (Finset.univ : Finset (Fin 10)) = insert 0 (Ring.homeSet (NB := 10) 1 0) := by decide +kernel
  rw [e, blocks_insert (by decide +kernel)]
omit [FloatOps F] in
/-- after the last trip every block of the result but 9 is done. -/
theorem ys_close (R : Fin 10 → Vec F S1000x128 .f32) : bigSep Finset.univ (yDone c R) = iprop(yDone c R 9 ∗ bigSep (Ring.behindSet 1 10) (yDone c R)) := by
  have e : (Finset.univ : Finset (Fin 10)) = insert 9 (Ring.behindSet (NB := 10) 1 10) := by decide +kernel
  rw [e, blocks_insert (by decide +kernel)]

/-- The rings at the loop's entry. -/
theorem ring_entry (R : Fin 10 → Vec F S1000x128 .f32) : ringAt c X R 0
    = iprop(bigSep (Ring.homeSet 1 0) (xP c X) ∗ inFlight c X 0 0 ∗ inFree c 1 ∗ bigSep Finset.univ (yAny c) ∗ bigSep (∅ : Finset (Fin 10)) (yDone c R) ∗ outFree c 0 ∗ outFree c 1) := by
  unfold ringAt
  rw [Ring.roleAt_of_lt _ _ 0 (by decide), Ring.roleBAt_of_lt _ _ _ 0 (by decide), Ring.aheadSet_zero, Ring.behindSet_boot 1 0 (by decide)]
  rfl
/-- The rings at its exit. -/
theorem ring_exit (R : Fin 10 → Vec F S1000x128 .f32) : ringAt c X R 10
    = iprop(bigSep Finset.univ (xP c X) ∗ inFree c 0 ∗ inFree c 1 ∗ bigSep (∅ : Finset (Fin 10)) (yAny c) ∗ bigSep (Ring.behindSet 1 10) (yDone c R) ∗ outFree c 0 ∗ outFlight c R 1 9) := by
  unfold ringAt
  rw [Ring.roleAt_of_le _ _ 10 (by decide), Ring.roleBAt_of_le _ _ _ 10 (by decide), Ring.aheadSet_end 10 (by decide), Ring.homeSet_last 1 10 (by decide)]
  rfl

set_option backward.proofsInPublic true in
/-- THE BODY: from the parameters staged, the input and the result by blocks and the rings free, to the result's blocks
    at their values and everything else as it was. -/
theorem bodyRun (Q : PUnit → sProp 𝕄) :
    iprop((params c arg1 arg2 arg3 arg4 g1 g2 g3 g4 ∗ bigSep Finset.univ (xP c X) ∗ inFree c 0 ∗ inFree c 1 ∗ bigSep Finset.univ (yAny c) ∗ outFree c 0 ∗ outFree c 1)
      ∗ ((params c arg1 arg2 arg3 arg4 g1 g2 g3 g4 ∗ bigSep Finset.univ (xP c X) ∗ inFree c 0 ∗ inFree c 1
        ∗ bigSep Finset.univ (yDone c (resBlk c X arg1 arg2 arg3 arg4 g1 g2 g3 g4)) ∗ outFree c 0 ∗ outFree c 1) -∗ Q ⟨⟩))
    ⊢ wp frame (wpE (defs₀ (F := F)) Variants.none (c : Thread nD τ) none) Set.univ (bodyG arg1 harg1 arg2 harg2 arg3 harg3 arg4 harg4) Q := by
  iintro ⟨⟨Hp, Hxs, ⟨%f0, Hs0, Hc0⟩, Hi1, Hys, Ho0, Ho1⟩, Hk⟩
  ihave Hxs' := (Entails.of_eq (xs_open c X)) $$ Hxs
  icases Hxs' with ⟨Hx, Hxs⟩
  sl_exec
  sl_for (invAt c X arg1 arg2 arg3 arg4 g1 g2 g3 g4) $$ [Hp Hxs Hc0 Hi1 Hys Ho0 Ho1]
  case region =>
    intro k acc
    unfold invAt
    iintro ⟨%ha, H⟩
    subst ha
    iapply (trip c X arg1 harg1 arg2 harg2 arg3 harg3 arg4 harg4 g1 g2 g3 g4 k)
    iexact H
  · unfold invAt
    rw [ring_entry]
    isplitr; · ipureintro; rfl
    isplitl [Hp]; · iexact Hp
    isplitl [Hxs]; · iexact Hxs
    isplitl [Hc0]
    · iexists _; isplitl [Hc0]; · iexact Hc0
      ipureintro
      rw [View.read_writes_whole]; rfl
    isplitl [Hi1]; · iexact Hi1
    isplitl [Hys]; · iexact Hys
    isplitr; · irw [bigSep_empty]; iempintro
    isplitl [Ho0]; · iexact Ho0
    iexact Ho1
  iintro %acc HI
  have ht : Scf.trips k0_t1_loop.lb k0_t1_loop.ub k0_t1_loop.st = 10 := trips_eq
  rw [ht]
  unfold invAt
  rw [ring_exit]
  icases HI with ⟨%ha, Hp, Hxs, Hi0, Hi1, -, Hd, Ho0, ⟨%gp, %fp, HFp, %hgp⟩⟩
  subst ha
  have h4 := chk4_ok
  have h5 := chk5_ok
  dsimp only [wordsAt]
  icases Hp with ⟨H1, H2, H3, H4, ⟨%W, HW⟩⟩
  sl_exec
  sl_step
  iapply Hk
  isplitl [H1 H2 H3 H4 HW]
  · isplitl [H1]; · iexact H1
    isplitl [H2]; · iexact H2
    isplitl [H3]; · iexact H3
    isplitl [H4]; · iexact H4
    iexists _; iexact HW
  isplitl [Hxs]; · iexact Hxs
  isplitl [Hi0]; · iexact Hi0
  isplitl [Hi1]; · iexact Hi1
  isplitl [HFp_dst Hd]
  · irw [ys_close]
    isplitl [HFp_dst]
    · iexists gp; isplitl [HFp_dst]; · iexact HFp_dst
      ipureintro; exact hgp
    iexact Hd
  isplitl [Ho0]; · iexact Ho0
  iexists _; isplitl [HFp_src]; · iexact HFp_src
  iexact HFp

end Ring

end Cert.Proof.Mlp

end
-- ==== Proof.Split.lean ====
/-
  Whole buffers as their blocks and slots: `x` and the result as ten row blocks of a thousand rows, each ring buffer as
  two slots; and the result put together again from its finished blocks, at named contents.
-/
module

public import proofs.«01_k».proof.Proof.Body
public import Idealize.ShloMosaic.Lib.ValueIdxCore

@[expose] public section

set_option maxRecDepth 16384

noncomputable section

namespace Cert.Proof.Mlp

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The sets of elements -/

/-- The elements of row block `b` of an array of ten thousand rows. -/
abbrev rowsOf (b : Fin 10) : Finset S10000x128.Idx := (Rect.unit (s := S10000x128) (blkOff b) S1000x128.size (blkOff_inb b)).set
/-- The elements of slot `s` of a ring. -/
abbrev slotOf (s : Fin 2) : Finset S2x1000x128.Idx := (Rect.unit (s := S2x1000x128) (slotOff s) S1x1000x128.size (slotOff_inb s)).set

/-- An element is in block `b` when `b` is its row divided by a thousand. -/
theorem mem_rowsOf (b : Fin 10) (y : S10000x128.Idx) : y ∈ rowsOf b ↔ (y 0).val / 1000 = b.val := by
  have h1 : (y 1).val < 128 := (y 1).isLt
  rw [Rect.mem_set_unit]
  refine ⟨fun H => ?_, fun H a => ?_⟩
  · have h0 : 1000 * b.val ≤ (y 0).val ∧ (y 0).val < 1000 * b.val + 1000 := H 0
    omega
  · fin_cases a
    · show 1000 * b.val ≤ (y 0).val ∧ (y 0).val < 1000 * b.val + 1000; omega
    · show 0 ≤ (y 1).val ∧ (y 1).val < 0 + 128; omega

/-- An element is in slot `s` when its leading coordinate is `s`. -/
theorem mem_slotOf (s : Fin 2) (y : S2x1000x128.Idx) : y ∈ slotOf s ↔ (y 0).val = s.val := by
  have h1 : (y 1).val < 1000 := (y 1).isLt
  have h2 : (y 2).val < 128 := (y 2).isLt
  rw [Rect.mem_set_unit]
  refine ⟨fun H => ?_, fun H a => ?_⟩
  · have h0 : s.val ≤ (y 0).val ∧ (y 0).val < s.val + 1 := H 0
    omega
  · fin_cases a
    · show s.val ≤ (y 0).val ∧ (y 0).val < s.val + 1; omega
    · show 0 ≤ (y 1).val ∧ (y 1).val < 0 + 1000; omega
    · show 0 ≤ (y 2).val ∧ (y 2).val < 0 + 128; omega

/-- Different blocks share no element. -/
theorem rowsOf_disjoint (b b' : Fin 10) (h : b ≠ b') : Disjoint (rowsOf b) (rowsOf b') :=
  Finset.disjoint_left.2 fun y hy hy' => h (Fin.ext (((mem_rowsOf b y).1 hy).symm.trans ((mem_rowsOf b' y).1 hy')))
/-- The two slots share no element. -/
theorem slotOf_disjoint (s s' : Fin 2) (h : s ≠ s') : Disjoint (slotOf s) (slotOf s') :=
  Finset.disjoint_left.2 fun y hy hy' => h (Fin.ext (((mem_slotOf s y).1 hy).symm.trans ((mem_slotOf s' y).1 hy')))
/-- Every element is in a block. -/
theorem rowsOf_cover : (Finset.univ : Finset (Fin 10)).biUnion rowsOf = Finset.univ :=
  Finset.eq_univ_iff_forall.2 fun y => Finset.mem_biUnion.2
    ⟨⟨(y 0).val / 1000, by have h : (y 0).val < 10000 := (y 0).isLt; omega⟩, Finset.mem_univ _, (mem_rowsOf _ y).2 rfl⟩
/-- Every element is in a slot. -/
theorem slotOf_cover : (Finset.univ : Finset (Fin 2)).biUnion slotOf = Finset.univ :=
  Finset.eq_univ_iff_forall.2 fun y => Finset.mem_biUnion.2 ⟨⟨(y 0).val, (y 0).isLt⟩, Finset.mem_univ _, (mem_slotOf _ y).2 rfl⟩

/-- What block `b` of `x` looks at. -/
theorem xblk_set (b : Fin 10) : (xblk b).view.set = rowsOf b := View.set_slice_whole _ _
/-- What block `b` of the result looks at. -/
theorem yblk_set (b : Fin 10) : (yblk b).view.set = rowsOf b := View.set_slice_whole _ _
/-- What slot `s` of the input ring looks at. -/
theorem islot_set (s : Fin 2) : (islot s).view.set = slotOf s := (View.set_reshape _ _).trans (View.set_slice_whole _ _)
/-- What slot `s` of the output ring looks at. -/
theorem oslot_set (s : Fin 2) : (oslot s).view.set = slotOf s := (View.set_reshape _ _).trans (View.set_slice_whole _ _)

/-! ## The two arrays in HBM -/

variable (c : Dev nD)

/-- A block of `x`, by its set of elements. -/
theorem xP_eq (X) (b : Fin 10) : xP c X b = (((c : Thread nD τ).loc main_arg0) ↦[rowsOf b]{fullShare} X : sProp 𝕄) :=
  congrArg (fun S => (_ ↦[S]{fullShare} X : sProp 𝕄)) (xblk_set b)
/-- A block of the result, by its set of elements. -/
theorem yP_eq (b : Fin 10) (g) : yP c b g = (((c : Thread nD τ).loc main_v2) ↦[rowsOf b]{fullShare} g : sProp 𝕄) :=
  congrArg (fun S => (_ ↦[S]{fullShare} g : sProp 𝕄)) (yblk_set b)

/-- `x` held whole is its ten blocks held. -/
theorem x_blocks (X : Buf (Elt F) ((c : Thread nD τ).loc main_arg0)) :
    (((c : Thread nD τ).loc main_arg0) ↦{fullShare} X : sProp 𝕄) = bigSep Finset.univ (xP c X) :=
  (Ring.pointsTo_blocks (ℓ := (c : Thread nD τ).loc main_arg0) rowsOf rowsOf_disjoint rowsOf_cover X).trans
    (bigSep_congr fun b _ => (xP_eq c X b).symm)
/-- The result held whole is its ten blocks held, all at the same contents. -/
theorem y_blocks (Y : Buf (Elt F) ((c : Thread nD τ).loc main_v2)) :
    (((c : Thread nD τ).loc main_v2) ↦{fullShare} Y : sProp 𝕄) = bigSep Finset.univ fun b => yP c b Y :=
  (Ring.pointsTo_blocks (ℓ := (c : Thread nD τ).loc main_v2) rowsOf rowsOf_disjoint rowsOf_cover Y).trans
    (bigSep_congr fun b _ => (yP_eq c b Y).symm)

/-- The array whose ten row blocks are `R`. -/
def stack (R : Fin 10 → Vec F S1000x128 .f32) : Vec F S10000x128 .f32 := fun y =>
  R ⟨(y 0).val / 1000, by have h : (y 0).val < 10000 := (y 0).isLt; omega⟩
    (ix2 ⟨(y 0).val % 1000, Nat.mod_lt _ (by decide)⟩ ⟨(y 1).val, (y 1).isLt⟩)

omit [FloatOps F] in
/-- Read at row `r` of block `b`, it is that row of block `b`. -/
theorem stack_at (R : Fin 10 → Vec F S1000x128 .f32) (b : Fin 10) (j : S1000x128.Idx) (y : S10000x128.Idx)
    (h0 : (y 0).val = 1000 * b.val + (j 0).val) (h1 : (y 1).val = (j 1).val) : stack R y = R b j := by
  have hj : (j 0).val < 1000 := (j 0).isLt
  have e0 : (⟨(y 0).val / 1000, by have h : (y 0).val < 10000 := (y 0).isLt; omega⟩ : Fin 10) = b := Fin.ext (by show (y 0).val / 1000 = b.val; omega)
  have e1 : (ix2 ⟨(y 0).val % 1000, Nat.mod_lt _ (by decide)⟩ ⟨(y 1).val, (y 1).isLt⟩ : S1000x128.Idx) = j := by
    funext a; fin_cases a
    · exact Fin.ext (by show (y 0).val % 1000 = (j 0).val; omega)
    · exact Fin.ext h1
  unfold stack; rw [e0, e1]

omit [FloatOps F] in
/-- Its block `b`, read through the result's view, is `R b`. -/
theorem read_stack (R : Fin 10 → Vec F S1000x128 .f32) (b : Fin 10) : (yblk b).view.read (Elt F) (stack R) = R b := by
  funext j
  refine (View.read_apply (v := (yblk b).view) (stack R) j).trans (stack_at R b j _ ?_ ?_)
  · show 1000 * b.val + 1 * (j 0).val = _; omega
  · show 0 + 1 * (j 1).val = _; omega

/-- Finished blocks are the blocks of the one array stacked from them. -/
theorem yDone_stack (R : Fin 10 → Vec F S1000x128 .f32) (b : Fin 10) : yDone c R b ⊢ (yP c b (stack R) : sProp 𝕄) := by
  iintro ⟨%g, H, %hg⟩
  have e : yP c b g = (yP c b (stack R) : sProp 𝕄) :=
    (pointsTo_rep (c : Thread nD τ) (yblk b) g fullShare).trans
      ((congrArg (fun d => ((yblk b).view.loc (c : Thread nD τ) ↦[(yblk b).view.set]{fullShare} (yblk b).view.rep d : sProp 𝕄)) (hg.trans (read_stack R b).symm)).trans
        (pointsTo_rep (c : Thread nD τ) (yblk b) (stack R) fullShare).symm)
  iapply (Entails.of_eq e)
  iexact H

/-- A block at given contents is a block at some contents. -/
theorem y_some (b : Fin 10) (g) : (yP c b g : sProp 𝕄) ⊢ yAny c b := exists_intro (Φ := fun g => yP c b g) g
/-- The result whole is ten blocks at some contents. -/
theorem y_open (Y : Buf (Elt F) ((c : Thread nD τ).loc main_v2)) :
    (((c : Thread nD τ).loc main_v2) ↦{fullShare} Y : sProp 𝕄) ⊢ bigSep Finset.univ (yAny c) := by
  rw [y_blocks]
  exact bigSep_mono fun b _ => y_some c b Y
/-- Ten finished blocks are the result whole, at their stack. -/
theorem y_close (R : Fin 10 → Vec F S1000x128 .f32) :
    bigSep Finset.univ (yDone c R) ⊢ (((c : Thread nD τ).loc main_v2) ↦{fullShare} stack R : sProp 𝕄) := by
  rw [y_blocks]
  exact bigSep_mono fun b _ => yDone_stack c R b

/-! ## The two rings -/

/-- A slot of the input ring, by its set of elements. -/
theorem islotP_eq (s : Fin 2) (f) : islotP c s f = (((c : Thread nD τ).loc cc0_scoped0) ↦[slotOf s]{fullShare} f : sProp 𝕄) :=
  congrArg (fun S => (_ ↦[S]{fullShare} f : sProp 𝕄)) (islot_set s)
/-- A slot of the output ring, by its set of elements. -/
theorem oslotP_eq (s : Fin 2) (f) : oslotP c s f = (((c : Thread nD τ).loc cc0_scoped2) ↦[slotOf s]{fullShare} f : sProp 𝕄) :=
  congrArg (fun S => (_ ↦[S]{fullShare} f : sProp 𝕄)) (oslot_set s)

omit [FloatOps F] in
/-- The two slots one by one. -/
theorem both (Φ : Fin 2 → sProp 𝕄) : bigSep Finset.univ Φ = iprop(Φ 0 ∗ Φ 1) :=
  bigSep_univ_eq_bigSepL [(0 : Fin 2), (1 : Fin 2)] (by decide) (by decide) Φ

/-- A buffer of the ring's shape, held whole at some contents, is two slots held. -/
theorem slots_open (r : Ref sig .tc) (I : Fin 2 → Finset (Idx ((c : Thread nD τ).loc r))) (hd : ∀ s s', s ≠ s' → Disjoint (I s) (I s'))
    (hc : Finset.univ.biUnion I = Finset.univ) :
    iprop(∃ f : Buf (Elt F) ((c : Thread nD τ).loc r), ((c : Thread nD τ).loc r) ↦{fullShare} f)
      ⊢ (iprop((∃ f, ((c : Thread nD τ).loc r) ↦[I 0]{fullShare} f) ∗ (∃ f, ((c : Thread nD τ).loc r) ↦[I 1]{fullShare} f)) : sProp 𝕄) := by
  iintro ⟨%f, H⟩
  ihave H2 := (Entails.of_eq ((Ring.pointsTo_blocks (Ix := Unit) (Name := ℕ) (U := Pipeline.UD sig nD τ) (Lvl := ℕ) (q := fullShare)
    (ℓ := (c : Thread nD τ).loc r) I hd hc f).trans (both _))) $$ H
  icases H2 with ⟨H0, H1⟩
  isplitl [H0]
  · iexists f; iexact H0
  · iexists f; iexact H1
/-- Two slots held, each at some contents, are the buffer held whole at some contents. -/
theorem slots_close (r : Ref sig .tc) (I : Fin 2 → Finset (Idx ((c : Thread nD τ).loc r))) (hd : ∀ s s', s ≠ s' → Disjoint (I s) (I s'))
    (hc : Finset.univ.biUnion I = Finset.univ) :
    iprop((∃ f, ((c : Thread nD τ).loc r) ↦[I 0]{fullShare} f) ∗ (∃ f, ((c : Thread nD τ).loc r) ↦[I 1]{fullShare} f))
      ⊢ (iprop(∃ f : Buf (Elt F) ((c : Thread nD τ).loc r), ((c : Thread nD τ).loc r) ↦{fullShare} f) : sProp 𝕄) := by
  iintro ⟨⟨%f0, H0⟩, H1⟩
  iapply (Ring.pointsTo_blocks_join_exists (ℓ := (c : Thread nD τ).loc r) I hd hc f0)
  irw [both]
  isplitl [H0]
  · iexists f0; iexact H0
  · iexact H1

/-- The input ring and its two semaphores are two free slots. -/
theorem in_open :
    iprop((∃ f : Buf (Elt F) ((c : Thread nD τ).loc cc0_scoped0), ((c : Thread nD τ).loc cc0_scoped0) ↦{fullShare} f) ∗ icellP c 0 ∗ icellP c 1)
      ⊢ (iprop(inFree c 0 ∗ inFree c 1) : sProp 𝕄) := by
  iintro ⟨H, Hc0, Hc1⟩
  ihave H2 := (slots_open c cc0_scoped0 slotOf slotOf_disjoint slotOf_cover) $$ H
  icases H2 with ⟨⟨%f0, H0⟩, ⟨%f1, H1⟩⟩
  isplitl [H0 Hc0]
  · iexists f0; isplitl [H0]; · iapply (Entails.of_eq (islotP_eq c 0 f0).symm); iexact H0
    iexact Hc0
  · iexists f1; isplitl [H1]; · iapply (Entails.of_eq (islotP_eq c 1 f1).symm); iexact H1
    iexact Hc1
/-- and back. -/
theorem in_close :
    iprop(inFree c 0 ∗ inFree c 1)
      ⊢ (iprop((∃ f : Buf (Elt F) ((c : Thread nD τ).loc cc0_scoped0), ((c : Thread nD τ).loc cc0_scoped0) ↦{fullShare} f) ∗ icellP c 0 ∗ icellP c 1) : sProp 𝕄) := by
  iintro ⟨⟨%f0, H0, Hc0⟩, ⟨%f1, H1, Hc1⟩⟩
  isplitl [H0 H1]
  · iapply (slots_close c cc0_scoped0 slotOf slotOf_disjoint slotOf_cover)
    isplitl [H0]
    · iexists f0; iapply (Entails.of_eq (islotP_eq c 0 f0)); iexact H0
    · iexists f1; iapply (Entails.of_eq (islotP_eq c 1 f1)); iexact H1
  isplitl [Hc0]; · iexact Hc0
  iexact Hc1
/-- The output ring and its two semaphores are two free slots. -/
theorem out_open :
    iprop((∃ f : Buf (Elt F) ((c : Thread nD τ).loc cc0_scoped2), ((c : Thread nD τ).loc cc0_scoped2) ↦{fullShare} f) ∗ ocellP c 0 ∗ ocellP c 1)
      ⊢ (iprop(outFree c 0 ∗ outFree c 1) : sProp 𝕄) := by
  iintro ⟨H, Hc0, Hc1⟩
  ihave H2 := (slots_open c cc0_scoped2 slotOf slotOf_disjoint slotOf_cover) $$ H
  icases H2 with ⟨⟨%f0, H0⟩, ⟨%f1, H1⟩⟩
  isplitl [H0 Hc0]
  · iexists f0; isplitl [H0]; · iapply (Entails.of_eq (oslotP_eq c 0 f0).symm); iexact H0
    iexact Hc0
  · iexists f1; isplitl [H1]; · iapply (Entails.of_eq (oslotP_eq c 1 f1).symm); iexact H1
    iexact Hc1
/-- and back. -/
theorem out_close :
    iprop(outFree c 0 ∗ outFree c 1)
      ⊢ (iprop((∃ f : Buf (Elt F) ((c : Thread nD τ).loc cc0_scoped2), ((c : Thread nD τ).loc cc0_scoped2) ↦{fullShare} f) ∗ ocellP c 0 ∗ ocellP c 1) : sProp 𝕄) := by
  iintro ⟨⟨%f0, H0, Hc0⟩, ⟨%f1, H1, Hc1⟩⟩
  isplitl [H0 H1]
  · iapply (slots_close c cc0_scoped2 slotOf slotOf_disjoint slotOf_cover)
    isplitl [H0]
    · iexists f0; iapply (Entails.of_eq (oslotP_eq c 0 f0)); iexact H0
    · iexists f1; iapply (Entails.of_eq (oslotP_eq c 1 f1)); iexact H1
  isplitl [Hc0]; · iexact Hc0
  iexact Hc1

end Cert.Proof.Mlp

end
-- ==== Proof.Run.lean ====
/-
  The run of `main`: the region's launch around `bodyRun`, and what every final state holds.
-/
module

public import proofs.«01_k».proof.Proof.Split

@[expose] public section

set_option maxRecDepth 16384

noncomputable section

namespace Cert.Proof.Mlp

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the region owns beside its windows -/

/-- The kernel's own semaphores: two for the copies in, two for the copies out. -/
abbrev osem0 : Fin 4 → SemLoc sig := fun j => (![.dma 4, .dma 5, .dma 6, .dma 7] : Fin 4 → SemLoc sig) j
/-- They are distinct, and none is a semaphore of the windows. -/
theorem ownSemFacts0 : Pipeline.OwnSemFacts spec0 osem0 := by decide

omit [FloatOps F] in
/-- Those four at zero are the rings' four semaphores at zero. -/
theorem ownSems_eq (c : Dev nD) :
    (Pipeline.ownSems0 (Ix := Unit) (Name := ℕ) (U := Pipeline.UD sig nD τ) (Lvl := ℕ) (Val := Elt F) (τ := τ) osem0 c : sProp 𝕄)
      = iprop(icellP c 0 ∗ icellP c 1 ∗ ocellP c 0 ∗ ocellP c 1) := by
  rw [Pipeline.ownSems0_eq_of_list c osem0 [0, 1, 2, 3] (by decide) (by decide)]; rfl

/-- The array the body's own copies read. -/
def readBufs : Finset (Ref sig .tc) := {main_arg0}
/-- The array the body's own copies write. -/
def writtenBufs : Finset (Ref sig .tc) := {main_v2}
/-- It is not an operand of a window. -/
theorem readBufs_sub : readBufs ⊆ Pipeline.restRefs sig spec0 := by decide
/-- Nor is this one, and the two are different arrays. -/
theorem writtenBufs_sub : writtenBufs ⊆ Pipeline.restRefs sig spec0 \ readBufs := by decide

/-- Row block `b` of the result. -/
def outBlk (c : Dev nD) (b : Fin 10) : Vec F S1000x128 .f32 :=
  mlp (xval c (V m c main_arg0) b) (iblk m c 0 t0_0) (iblk m c 1 t0_0) (iblk m c 2 t0_0) (iblk m c 3 t0_0)
/-- The result. -/
def result (c : Dev nD) : Vec F S10000x128 .f32 := stack (outBlk m c)
/-- The core's buffers after the region: the result at its contents, the others as they were. -/
def after (c : Dev nD) : (b : Ref sig .tc) → Buf (Elt F) ((c : Thread nD τ).loc b) :=
  Function.update (V m c) main_v2 (result m c)

/-- The invariant with the result at `W`: its conjuncts one by one. -/
theorem inv_eq (W : (c : Dev nD) → (b : Ref sig .tc) → Buf (Elt F) ((c : Thread nD τ).loc b)) (c : Dev nD) :
    (Pipeline.ΦDRG osem0 spec0 readBufs writtenBufs (V m) W c : sProp 𝕄)
      = iprop(((∃ f : Buf (Elt F) ((c : Thread nD τ).loc cc0_scoped0), ((c : Thread nD τ).loc cc0_scoped0) ↦{fullShare} f)
            ∗ (∃ f : Buf (Elt F) ((c : Thread nD τ).loc cc0_scoped2), ((c : Thread nD τ).loc cc0_scoped2) ↦{fullShare} f))
          ∗ (∃ r, prngReg c r) ∗ (icellP c 0 ∗ icellP c 1 ∗ ocellP c 0 ∗ ocellP c 1)
          ∗ bigSep Finset.univ (xP c (V m c main_arg0))
          ∗ (((c : Thread nD τ).loc main_v2) ↦{fullShare} W c main_v2)) := by
  rw [Pipeline.ΦDRG_eq, scopedRest0_eq, ownSems_eq]
  unfold readBufs writtenBufs
  rw [Pipeline.routed_singleton, bigSep_singleton, x_blocks]

/-! ## The data of the one grid point -/

/-- The four windows are inputs: what the body leaves in each is what was fetched. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ k := if k.val = 0 then Pipeline.ΦDRG osem0 spec0 readBufs writtenBufs (V m) (V m) c
    else Pipeline.ΦDRG osem0 spec0 readBufs writtenBufs (V m) (after m) c
  q _ := fullShare
  owed _ := 0

/-- Before the body, the staging buffer of window 0 (W1) holds the operand. -/
theorem before_0 (c : Dev nD) (t : Fin cfg0.N) (d) : (dats m 0 c).before 0 t d = iblk m c 0 t := by
  unfold Dat.before; rw [if_pos (fetch0_0 t)]; unfold Dat.fetched Dat.blockOf iblk; dsimp only [dats]; rfl
/-- Before the body, the staging buffer of window 1 (b1) holds the operand. -/
theorem before_1 (c : Dev nD) (t : Fin cfg0.N) (d) : (dats m 0 c).before 1 t d = iblk m c 1 t := by
  unfold Dat.before; rw [if_pos (fetch0_1 t)]; unfold Dat.fetched Dat.blockOf iblk; dsimp only [dats]; rfl
/-- Before the body, the staging buffer of window 2 (W2) holds the operand. -/
theorem before_2 (c : Dev nD) (t : Fin cfg0.N) (d) : (dats m 0 c).before 2 t d = iblk m c 2 t := by
  unfold Dat.before; rw [if_pos (fetch0_2 t)]; unfold Dat.fetched Dat.blockOf iblk; dsimp only [dats]; rfl
/-- Before the body, the staging buffer of window 3 (b2) holds the operand. -/
theorem before_3 (c : Dev nD) (t : Fin cfg0.N) (d) : (dats m 0 c).before 3 t d = iblk m c 3 t := by
  unfold Dat.before; rw [if_pos (fetch0_3 t)]; unfold Dat.fetched Dat.blockOf iblk; dsimp only [dats]; rfl
/-- After the body, window 0 (W1) holds it still. -/
theorem after_0 (c : Dev nD) (t : Fin cfg0.N) : (dats m 0 c).after 0 t = iblk m c 0 t := by dsimp only [dats]
/-- After the body, window 1 (b1) holds it still. -/
theorem after_1 (c : Dev nD) (t : Fin cfg0.N) : (dats m 0 c).after 1 t = iblk m c 1 t := by dsimp only [dats]
/-- After the body, window 2 (W2) holds it still. -/
theorem after_2 (c : Dev nD) (t : Fin cfg0.N) : (dats m 0 c).after 2 t = iblk m c 2 t := by dsimp only [dats]
/-- After the body, window 3 (b2) holds it still. -/
theorem after_3 (c : Dev nD) (t : Fin cfg0.N) : (dats m 0 c).after 3 t = iblk m c 3 t := by dsimp only [dats]

/-! ## The body at the one grid point -/

/-- The staging buffer of W1. -/
abbrev stW1 (t : Fin cfg0.N) : Memref sig .tc .vmem S128x128 .f32 := win0_0.stage (cfg0.slots t 0)
/-- The staging buffer of b1. -/
abbrev stB1 (t : Fin cfg0.N) : Memref sig .tc .vmem S1x128 .f32 := win0_1.stage (cfg0.slots t 1)
/-- The staging buffer of W2. -/
abbrev stW2 (t : Fin cfg0.N) : Memref sig .tc .vmem S128x128 .f32 := win0_2.stage (cfg0.slots t 2)
/-- The staging buffer of b2. -/
abbrev stB2 (t : Fin cfg0.N) : Memref sig .tc .vmem S1x128 .f32 := win0_3.stage (cfg0.slots t 3)

/-- The table's entry for this kernel, as a function of the staging buffers. -/
theorem body_entry : (defs₀ (F := F)) .tc cfg0.body
    = fun a => bodyG (win0_0.stage (a.2 0)) (hstage0_0 0) (win0_1.stage (a.2 1)) (hstage0_1 0)
        (win0_2.stage (a.2 2)) (hstage0_2 0) (win0_3.stage (a.2 3)) (hstage0_3 0) := rfl
/-- and at the point's staging buffers. -/
theorem body_at (t : Fin cfg0.N) : (defs₀ (F := F)) .tc cfg0.body (cfg0.bodyArgs t (cfg0.slots t))
    = bodyG (stW1 t) (hstage0_0 0) (stB1 t) (hstage0_1 0) (stW2 t) (hstage0_2 0) (stB2 t) (hstage0_3 0) :=
  (congrFun body_entry _).trans rfl

/-- The blocks the body leaves, computed from the staged operands, are the blocks of the result. -/
theorem resBlk_eq (c : Dev nD) (t : Fin cfg0.N) :
    resBlk c (V m c main_arg0) (stW1 t) (stB1 t) (stW2 t) (stB2 t) ((stW1 t).view.rep (iblk m c 0 t)) ((stB1 t).view.rep (iblk m c 1 t))
      ((stW2 t).view.rep (iblk m c 2 t)) ((stB2 t).view.rep (iblk m c 3 t)) = outBlk m c := by
  have ht := fin_N0 t
  subst ht
  funext b
  unfold resBlk outBlk
  rw [View.read_rep, View.read_rep, View.read_rep, View.read_rep]

set_option backward.isDefEq.respectTransparency.types false in
/-- The body, entered with the staged operands and the rings free, leaves the result's array at the result. -/
theorem body_obligation (c : Dev nD) : BodyObligation (dats m 0 c) (defs₀ (F := F)) Variants.none () Set.univ := fun t => by
  rw [bigSep_W0, bigSep_W0]
  dsimp only
  simp only [before_0, before_1, before_2, before_3, after_0, after_1, after_2, after_3]
  have ht := fin_N0 t
  rw [show (dats m 0 c).Φ t.castSucc = Pipeline.ΦDRG osem0 spec0 readBufs writtenBufs (V m) (V m) c from by subst ht; rfl,
    show (dats m 0 c).Φ t.succ = Pipeline.ΦDRG osem0 spec0 readBufs writtenBufs (V m) (after m) c from by subst ht; rfl]
  rw [inv_eq, inv_eq]
  unfold Dat.owesAt Pipeline.owesWithin
  rw [show (dats m 0 c).owed t.castSucc = 0 from rfl, show (dats m 0 c).owed t.succ = 0 from rfl]
  unfold owns
  iintro ⟨⟨⟨Hin, Hout⟩, Hg, ⟨Hi0, Hi1, Ho0, Ho1⟩, Hx, Hy⟩, ⟨%W, -, HW⟩, ⟨%d0, %g0, %hg0, H0⟩, ⟨%d1, %g1, %hg1, H1⟩, ⟨%d2, %g2, %hg2, H2⟩, ⟨%d3, %g3, %hg3, H3⟩⟩
  ihave H0 := (pointsTo_rep_entails (c : Thread nD τ) (stW1 t) g0 fullShare) $$ H0
  ihave H1 := (pointsTo_rep_entails (c : Thread nD τ) (stB1 t) g1 fullShare) $$ H1
  ihave H2 := (pointsTo_rep_entails (c : Thread nD τ) (stW2 t) g2 fullShare) $$ H2
  ihave H3 := (pointsTo_rep_entails (c : Thread nD τ) (stB2 t) g3 fullShare) $$ H3
  rw [hg0, hg1, hg2, hg3]
  ihave HI := (in_open c) $$ [Hin Hi0 Hi1]
  · isplitl [Hin]; · iexact Hin
    isplitl [Hi0]; · iexact Hi0
    iexact Hi1
  ihave HO := (out_open c) $$ [Hout Ho0 Ho1]
  · isplitl [Hout]; · iexact Hout
    isplitl [Ho0]; · iexact Ho0
    iexact Ho1
  icases HI with ⟨Hi0, Hi1⟩
  icases HO with ⟨Ho0, Ho1⟩
  ihave Hy := (y_open c _) $$ Hy
  sl_rw [body_at t]
  iapply (bodyRun c (V m c main_arg0) (stW1 t) (hstage0_0 0) (stB1 t) (hstage0_1 0) (stW2 t) (hstage0_2 0) (stB2 t) (hstage0_3 0))
  isplitl [H0 H1 H2 H3 HW Hx Hi0 Hi1 Hy Ho0 Ho1]
  · isplitl [H0 H1 H2 H3 HW]
    · isplitl [H0]; · iexact H0
      isplitl [H1]; · iexact H1
      isplitl [H2]; · iexact H2
      isplitl [H3]; · iexact H3
      iexists W; iexact HW
    isplitl [Hx]; · iexact Hx
    isplitl [Hi0]; · iexact Hi0
    isplitl [Hi1]; · iexact Hi1
    isplitl [Hy]; · iexact Hy
    isplitl [Ho0]; · iexact Ho0
    iexact Ho1
  rw [resBlk_eq]
  iintro ⟨⟨H0, H1, H2, H3, ⟨%W', HW⟩⟩, Hx, Hi0, Hi1, Hy, Ho0, Ho1⟩
  ihave HI := (in_close c) $$ [Hi0 Hi1]
  · isplitl [Hi0]; · iexact Hi0
    iexact Hi1
  ihave HO := (out_close c) $$ [Ho0 Ho1]
  · isplitl [Ho0]; · iexact Ho0
    iexact Ho1
  icases HI with ⟨Hin, Hi0, Hi1⟩
  icases HO with ⟨Hout, Ho0, Ho1⟩
  ihave Hy := (y_close c (outBlk m c)) $$ Hy
  isplitl [Hin Hout Hg Hi0 Hi1 Ho0 Ho1 Hx Hy]
  · isplitl [Hin Hout]
    · isplitl [Hin]; · iexact Hin
      iexact Hout
    isplitl [Hg]; · iexact Hg
    isplitl [Hi0 Hi1 Ho0 Ho1]
    · isplitl [Hi0]; · iexact Hi0
      isplitl [Hi1]; · iexact Hi1
      isplitl [Ho0]; · iexact Ho0
      iexact Ho1
    isplitl [Hx]; · iexact Hx
    unfold after
    irw [Function.update_self]
    iexact Hy
  isplitl [HW]
  · iexists W'; isplitr; · ipureintro; exact fun _ _ => Or.inl trivial
    iexact HW
  isplitl [H0]
  · iexists _; isplitr; · ipureintro; exact View.read_rep _ _
    iexact H0
  isplitl [H1]
  · iexists _; isplitr; · ipureintro; exact View.read_rep _ _
    iexact H1
  isplitl [H2]
  · iexists _; isplitr; · ipureintro; exact View.read_rep _ _
    iexact H2
  iexists _; isplitr; · ipureintro; exact View.read_rep _ _
  iexact H3

/-! ## The run -/

set_option maxHeartbeats 800000 in
/-- `main` up to the region: the two reshapes of the biases. -/
theorem to_region : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

/-- The state `main` is started in. -/
abbrev start : MemSt nD τ sig (Elt F) := ⟨m, fun _ => 0, ρ⟩

/-- What a final state holds: on every device the result's array at `result`, the six arguments as they were; every
    semaphore at zero. -/
def Final (r : PUnit × MemSt nD τ sig (Elt F)) : Prop :=
  (∀ c : Dev nD, r.2.mem ((c : Thread nD τ).loc main_v2) = result m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5))
  ∧ r.2.sem = fun _ => 0

/-- The launch's own reading of a final state gives `Final`. -/
theorem final_of (r : PUnit × MemSt nD τ sig (Elt F))
    (h : Pipeline.FramePostRG cfgs (dats m) 0 writtenBufs (V m) (after m) r ∧ r.2.sem = (fun _ => 0)) : Final m r := by
  obtain ⟨hp, hz⟩ := h
  have hf := hp.1
  refine ⟨fun c => ⟨?_, ?_, ?_, ?_, ?_, ?_, ?_⟩, hz⟩
  · exact (hp.written c (by decide : main_v2 ∈ writtenBufs)).trans (Function.update_self ..)
  · exact ((hf c).2 main_arg0 (Finset.mem_sdiff.mpr ⟨Pipeline.mem_restRefs_of main_arg0 (by decide) (by decide), by decide⟩)).trans (V_main_arg0 m c)
  · exact ((hf c).2 main_arg1 (Finset.mem_sdiff.mpr ⟨Pipeline.mem_restRefs_of main_arg1 (by decide) (by decide), by decide⟩)).trans (V_main_arg1 m c)
  · exact ((hf c).1 0).trans (((dats m 0 c).arrAt_in 0 rfl _).trans (V_main_arg2 m c))
  · exact ((hf c).2 main_arg3 (Finset.mem_sdiff.mpr ⟨Pipeline.mem_restRefs_of main_arg3 (by decide) (by decide), by decide⟩)).trans (V_main_arg3 m c)
  · exact ((hf c).1 2).trans (((dats m 0 c).arrAt_in 2 rfl _).trans (V_main_arg4 m c))
  · exact ((hf c).2 main_arg5 (Finset.mem_sdiff.mpr ⟨Pipeline.mem_restRefs_of main_arg5 (by decide) (by decide), by decide⟩)).trans (V_main_arg5 m c)

set_option backward.isDefEq.respectTransparency.types false in
/-- For any float values, from any memory with every semaphore at zero: `main` terminates, and every final state is
    `Final`. -/
theorem run_main : θ_run defs (onTc (τ := τ) (main (F := F))) (start m ρ) (Final m) :=
  Pipeline.θ_run_frame_dmaRG (Q' := Final m) cfgs (dats m) (0 : Fin 1) launch0 osem0 defs₀ Variants.none ownSemFacts0 readBufs writtenBufs
    readBufs_sub writtenBufs_sub m ρ main
    (hbody := fun c => (body_obligation m c).loose) (hshare := fun c => (dats m 0 c).share_full fun _ => rfl)
    (howed := fun _ _ => rfl) (V := V m) (hmain := to_region m) (hA := fun _ _ => rfl) (G := after m)
    (hin := fun _ => .rfl)
    (hout := fun c => by rw [show (dats m 0 c).Φ (Fin.last cfg0.N) = Pipeline.ΦDRG osem0 spec0 readBufs writtenBufs (V m) (after m) c from rfl])
    (hQ' := fun r h => final_of m r h)

end Cert.Proof.Mlp

end
-- ==== Proof.Reference.lean ====
/-
  The result as one function of the arguments, row by row, and the reference read as that function: at the ideal floats,
  where a change of format keeps the number and arithmetic is exact.
-/
module

public import proofs.«01_k».proof.Proof.Gen.ReferenceIdeal.Run
public import Idealize.ShloMosaic.Lib.Pointwise

@[expose] public section

noncomputable section

namespace Cert.Proof.Mlp

open Cert.ReferenceIdeal Cert.ReferenceIdeal.Gen
open Idealize.ShloMosaic
open Idealize.ShloMosaic.TcCoe
open Idealize.SL.Sem

/-! ## One row -/

/-- One coordinate of a linear layer on the row `a`: the product with a column of the weights, plus the bias. -/
def layer (a : Fin 128 → EReal) (w : S128x128.Idx → EReal) (b : Fin 128 → EReal) (q : Fin 128) : EReal :=
  ∑ l, a l * w (ix2 l q) + b q
/-- The activation: the identity above zero, `exp h - 1` elsewhere. -/
def act (h : EReal) : EReal := if 0 < h then h else Ideal.exp h - 1
/-- One coordinate of the two layers with the activation between, on the row `a`. -/
def row (a : Fin 128 → EReal) (w1 : S128x128.Idx → EReal) (b1 : Fin 128 → EReal) (w2 : S128x128.Idx → EReal) (b2 : Fin 128 → EReal)
    (q : Fin 128) : EReal :=
  layer (fun k => act (layer a w1 b1 k)) w2 b2 q

/-! ## The reference -/

/-- A linear layer as the reference spells it. -/
def refLayer (x : FVec Ideal S10000x128 .f32) (w : FVec Ideal S128x128 .f32) (b : FVec Ideal S128 .f32) : FVec Ideal S10000x128 .f32 :=
  addf (Host.dotGeneral dot_S10000x128_S128x128_S10000x128_1_0_0_1_n_n none x w)
    (broadcastInDim S10000x128 ![0, 1] bcast_S1x128_S10000x128_0_1 (broadcastInDim S1x128 ![1] bcast_S128_S1x128_1 b))
/-- The activation as the reference spells it. -/
def refAct (h : FVec Ideal S10000x128 .f32) : FVec Ideal S10000x128 .f32 :=
  select (cmpf .ogt h (broadcastInDim S10000x128 ![] bcast_S_S10000x128 (constant S_ .f32 0x00000000#32))) h
    (subf (Host.exp h) (broadcastInDim S10000x128 ![] bcast_S_S10000x128 (constant S_ .f32 0x3F800000#32)))
/-- The reference's result as a function of its arguments. -/
def refOut (x : FVec Ideal S10000x128 .f32) (w1 : FVec Ideal S128x128 .f32) (b1 : FVec Ideal S128 .f32) (w2 : FVec Ideal S128x128 .f32)
    (b2 : FVec Ideal S128 .f32) : FVec Ideal S10000x128 .f32 :=
  refLayer (refAct (refLayer x w1 b1)) w2 b2

/-- The reference's layer at an element. -/
theorem refLayer_at (x : FVec Ideal S10000x128 .f32) (w : FVec Ideal S128x128 .f32) (b : FVec Ideal S128 .f32) (r : Fin 10000) (q : Fin 128) :
    refLayer x w b (ix2 r q) = layer (fun l => x (ix2 r l)) w (fun k => b (ix1 k)) q := by
  unfold refLayer layer
  pointwise
/-- The reference's activation at an element. -/
theorem refAct_at (h : FVec Ideal S10000x128 .f32) (r : Fin 10000) (q : Fin 128) : refAct h (ix2 r q) = act (h (ix2 r q)) := by
  unfold refAct act
  pointwise
/-- The reference's result at an element. -/
theorem refOut_at (x : FVec Ideal S10000x128 .f32) (w1 : FVec Ideal S128x128 .f32) (b1 : FVec Ideal S128 .f32) (w2 : FVec Ideal S128x128 .f32)
    (b2 : FVec Ideal S128 .f32) (r : Fin 10000) (q : Fin 128) :
    refOut x w1 b1 w2 b2 (ix2 r q) = row (fun l => x (ix2 r l)) w1 (fun k => b1 (ix1 k)) w2 (fun k => b2 (ix1 k)) q := by
  unfold refOut row
  simp only [refLayer_at, refAct_at]

/-- The reference's run: it terminates, its result is `refOut` of its arguments, and its arguments are unchanged. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13)
        = refOut (m ((c.tc : Thread nD τ).loc main_arg0)) (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run m ρ

end Cert.Proof.Mlp

end
-- ==== Proof.Value.lean ====
/-
  The kernel's result read as the same function of the arguments, and so equal to the reference's: at the ideal floats.
-/
module

public import proofs.«01_k».proof.Proof.Run
public import proofs.«01_k».proof.Proof.Reference
public import Idealize.ShloMosaic.Lib.Pipeline.ValueKit

@[expose] public section

noncomputable section

namespace Cert.Proof.Mlp

open Cert.KernelIdeal Cert.KernelIdeal.Gen
open Idealize.ShloMosaic
open Idealize.ShloMosaic.TcCoe
open Idealize.SL.Sem

/-- A block the kernel computes, at an element. -/
theorem mlp_at (x : Vec Ideal S1000x128 .f32) (w1 : Vec Ideal S128x128 .f32) (b1 : Vec Ideal S1x128 .f32) (w2 : Vec Ideal S128x128 .f32)
    (b2 : Vec Ideal S1x128 .f32) (r : Fin 1000) (q : Fin 128) :
    mlp x w1 b1 w2 b2 (ix2 r q) = row (fun l => x (ix2 r l)) w1 (fun k => b1 (ix2 0 k)) w2 (fun k => b2 (ix2 0 k)) q := by
  unfold mlp k0_pay1 k0_pay2
  simp only [row, layer, act]
  pointwise

variable (m : (ℓ : Loc nD τ sig) → Buf (Elt Ideal) ℓ) (c : Dev nD)

/-- Window 0's one block starts at the origin. -/
theorem at_origin0 (a : Fin 2) : win0_0.index t0_0 a = 0 := by revert a; decide +kernel
/-- Window 1's one block starts at the origin. -/
theorem at_origin1 (a : Fin 2) : win0_1.index t0_0 a = 0 := by revert a; decide +kernel
/-- Window 2's one block starts at the origin. -/
theorem at_origin2 (a : Fin 2) : win0_2.index t0_0 a = 0 := by revert a; decide +kernel
/-- Window 3's one block starts at the origin. -/
theorem at_origin3 (a : Fin 2) : win0_3.index t0_0 a = 0 := by revert a; decide +kernel

/-- The first weights, as staged. -/
theorem staged_w1 : iblk m c 0 t0_0 = m ((c : Thread nD τ).loc main_arg2) := by
  refine Eq.trans ?_ (V_main_arg2 m c)
  funext y
  blk_ext [iblk, at_origin0]
/-- The second weights, as staged. -/
theorem staged_w2 : iblk m c 2 t0_0 = m ((c : Thread nD τ).loc main_arg4) := by
  refine Eq.trans ?_ (V_main_arg4 m c)
  funext y
  blk_ext [iblk, at_origin2]
/-- The first bias as staged: the reshaped bias the region finds. -/
theorem staged_v0 : iblk m c 1 t0_0 = V m c main_v0 := by
  funext y
  blk_ext [iblk, at_origin1]
/-- The second bias as staged: the reshaped bias the region finds. -/
theorem staged_v1 : iblk m c 3 t0_0 = V m c main_v1 := by
  funext y
  blk_ext [iblk, at_origin3]
/-- The reshaped first bias, as the region finds it. -/
theorem found_v0 : V m c main_v0 = shapeCast S1x128 (m ((c : Thread nD τ).loc main_arg3) : FVec Ideal S128 .f32) shapeCasts_S128_S1x128 := by
  unfold V hostOps0
  after_results
  funext i
  rfl
/-- The reshaped second bias, as the region finds it. -/
theorem found_v1 : V m c main_v1 = shapeCast S1x128 (m ((c : Thread nD τ).loc main_arg5) : FVec Ideal S128 .f32) shapeCasts_S128_S1x128 := by
  unfold V hostOps0
  after_results
  funext i
  rfl

/-- A row vector made of a vector, at an element. -/
theorem asRow_at (b : FVec Ideal S128 .f32) (k : Fin 128) : shapeCast S1x128 b shapeCasts_S128_S1x128 (ix2 0 k) = b (ix1 k) := by
  pointwise

/-- Row block `b` of `x`, at an element. -/
theorem xval_at (X : Vec Ideal S10000x128 .f32) (b : Fin 10) (r : Fin 1000) (l : Fin 128) (y : Fin 10000) (h : y.val = 1000 * b.val + r.val) :
    xval c X b (ix2 r l) = X (ix2 y l) := by
  refine (View.read_apply (Val := Elt Ideal) (v := (xblk b).view) X (ix2 r l)).trans (congrArg X ?_)
  funext a
  fin_cases a
  · exact Fin.ext (by show 1000 * b.val + 1 * r.val = y.val; omega)
  · exact Fin.ext (by show 0 + 1 * l.val = l.val; omega)

/-- Equal rows and equal biases give equal results. -/
theorem row_congr {a a' b1 b1' b2 b2' : Fin 128 → EReal} {w1 w2 : S128x128.Idx → EReal} (ha : ∀ l, a l = a' l) (h1 : ∀ k, b1 k = b1' k)
    (h2 : ∀ k, b2 k = b2' k) (q : Fin 128) : row a w1 b1 w2 b2 q = row a' w1 b1' w2 b2' q := by
  rw [funext ha, funext h1, funext h2]

/-- The result is the reference's function of the arguments. -/
theorem result_eq : result m c = refOut (m ((c : Thread nD τ).loc main_arg0)) (m ((c : Thread nD τ).loc main_arg2)) (m ((c : Thread nD τ).loc main_arg3))
    (m ((c : Thread nD τ).loc main_arg4)) (m ((c : Thread nD τ).loc main_arg5)) := by
  funext y
  obtain ⟨r, q, rfl⟩ : ∃ (r : Fin 10000) (q : Fin 128), y = ix2 r q := ⟨y 0, y 1, eq_ix2 y⟩
  have hr := r.isLt
  rw [refOut_at]
  unfold result
  refine (stack_at (outBlk m c) ⟨r.val / 1000, by omega⟩ (ix2 ⟨r.val % 1000, by omega⟩ q) (ix2 r q) ?_ rfl).trans ?_
  · show r.val = 1000 * (r.val / 1000) + r.val % 1000; omega
  unfold outBlk
  rw [mlp_at, staged_w1, staged_w2, staged_v0, staged_v1, found_v0, found_v1, V_main_arg0]
  exact row_congr (fun l => xval_at c _ _ _ _ _ (by show r.val = 1000 * (r.val / 1000) + r.val % 1000; omega)) (asRow_at _) (asRow_at _) q

end Cert.Proof.Mlp

end
-- ==== Proof.lean ====
/-
  The five claims from the run of the kernel (Proof/Run.lean), the run of the reference (Proof/Reference.lean) and the
  equality of their results (Proof/Value.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value

@[expose] public section

set_option maxRecDepth 16384

noncomputable section

namespace Cert.Proof

open Idealize.ShloMosaic Idealize.ShloMosaic.TcCoe Idealize.SL.Sem
open Cert.Proof.Mlp (Final run_main reference_run refOut result result_eq)

variable {F : FTy → Type} [FloatOps F]

/-- The kernel as written and the idealized kernel name the same body for their one launch: their texts are the same. -/
theorem defs₀_eq : @Kernel.defs₀ F _ _ = @KernelIdeal.defs₀ F _ _ := by
  refine congrArg Defs.onTc ?_
  funext l a
  match l, a with
  | 0, (_, _) => rfl
  | ⟨_ + 1, h⟩, _ => exact absurd h (Nat.not_lt.2 (Nat.le_add_left _ _))

/-- So they have the same table of bodies. -/
theorem defs_eq : @Kernel.defs F _ _ = @KernelIdeal.defs F _ _ := congrArg (Pipeline.defs Kernel.pcfgs) defs₀_eq

/-- The kernel as written, at machine floats: it terminates, its arguments are unchanged, every semaphore ends at zero.
    Its text is the idealized kernel's, so its run is `run_main` at machine floats. -/
theorem frame_kernel : Cert.quiescent_Kernel := fun m ρ _ => by
  rw [defs_eq]
  exact (θ_run Cert.KernelIdeal.defs _ _).mono (fun _ h => ⟨fun c => (h.1 c).2, h.2⟩) (run_main (F := Bits) m ρ)

/-- The idealized kernel, at the ideal floats. -/
theorem frame_ideal : Cert.quiescent_KernelIdeal := fun m ρ _ =>
  (θ_run Cert.KernelIdeal.defs _ _).mono (fun _ h => ⟨fun c => (h.1 c).2, h.2⟩) (run_main (F := Ideal) m ρ)

/-- The reference, at the ideal floats: it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩) (reference_run m ρ)

/-- At the ideal floats, from memories that agree on the arguments, the kernel's result is the reference's. -/
theorem value : Cert.algebraic_KernelIdeal_ReferenceIdeal := fun m ρ m' ρ' _ hargs => by
  refine ⟨fun c => result m c, (θ_run Cert.KernelIdeal.defs _ _).mono (fun r h => h.1) (run_main (F := Ideal) m ρ), ?_⟩
  refine (θ_run Cert.ReferenceIdeal.defs _ _).mono (fun r h c => ⟨(h c).1.trans ?_, (h c).2⟩) (reference_run m' ρ')
  obtain ⟨h0, -, h2, h3, h4, h5⟩ := hargs c
  rw [h0, h2, h3, h4, h5]
  exact (result_eq m c).symm

/-- Everything claimed. -/
theorem claim : Cert.Claim :=
  ⟨Cert.Kernel.Gen.facts, Cert.KernelIdeal.Gen.facts, Cert.ReferenceIdeal.Gen.facts,
    frame_kernel, frame_ideal, frame_reference, trivial, value⟩

end Cert.Proof

end
